-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_rows [hPre_normal_rows : Cert.Pre_normal_rows.Facts] (m : (ℓ : Loc Cert.KernelIdeal.nD Cert.KernelIdeal.τ Cert.KernelIdeal.sig) → Buf (Elt Ideal) ℓ) : Prop :=
  ∀ c : Dev Cert.KernelIdeal.nD,
    (Cert.Pre_normal_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_rows [hPre_normal_rows : Cert.Pre_normal_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal_rows [hKernelIdeal : Cert.KernelIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_rows [hReferenceIdeal : Cert.ReferenceIdeal.Facts] [hPre_normal_rows : Cert.Pre_normal_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S8x2x1280 Cert.KernelIdeal.S8x1x1280
  ∧ IdealRules.bf16_pair.Statement Cert.KernelIdeal.S8x2x1280 Cert.KernelIdeal.S8x1x1280
  ∧ IdealRules.bf16_pair.SelectZeroStatement Cert.KernelIdeal.S8x1280
  ∧ IdealRules.bf16_pair.Statement Cert.KernelIdeal.S1024x128 Cert.KernelIdeal.S512x128
  ∧ IdealRules.bf16_pair.Statement Cert.KernelIdeal.S8x2x128 Cert.KernelIdeal.S8x1x128
  ∧ IdealRules.bf16_pair.HalfStatement Cert.KernelIdeal.S512x128
  ∧ IdealRules.named_const.Statement Cert.KernelIdeal.κ "sqrt_half" .f32 0x3F3504F3#32 (((Real.sqrt 2)⁻¹ : ℝ) : EReal)

def algebraic_KernelIdeal_ReferenceIdeal_pre_normal_rows [hKernelIdeal : Cert.KernelIdeal.Facts] [hReferenceIdeal : Cert.ReferenceIdeal.Facts] [hPre_normal_rows : Cert.Pre_normal_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal_rows : Cert.Pre_normal_rows.Facts),
    quiescent_Kernel (hKernel := hKernel)
    ∧ quiescent_KernelIdeal (hKernelIdeal := hKernelIdeal)
    ∧ quiescent_KernelIdeal_pre_normal_rows (hKernelIdeal := hKernelIdeal) (hPre_normal_rows := hPre_normal_rows)
    ∧ quiescent_ReferenceIdeal (hReferenceIdeal := hReferenceIdeal)
    ∧ quiescent_ReferenceIdeal_pre_normal_rows (hReferenceIdeal := hReferenceIdeal) (hPre_normal_rows := hPre_normal_rows)
    ∧ preserves_Kernel_KernelIdeal
    ∧ algebraic_KernelIdeal_ReferenceIdeal_pre_normal_rows (hKernelIdeal := hKernelIdeal) (hReferenceIdeal := hReferenceIdeal) (hPre_normal_rows := hPre_normal_rows)
-- ==== Pre_normal_rows.lean ====
abbrev S2x16384x1280 : Shape := ⟨3, ![2, 16384, 1280]⟩
abbrev S3840x2048 : Shape := ⟨2, ![3840, 2048]⟩
abbrev S2048 : Shape := ⟨1, ![2048]⟩
abbrev S2x8192x2560 : Shape := ⟨3, ![2, 8192, 2560]⟩
abbrev S2x8191x1280 : Shape := ⟨3, ![2, 8191, 1280]⟩
abbrev S_ : Shape := ⟨0, ![]⟩
abbrev S2x8192x1280 : Shape := ⟨3, ![2, 8192, 1280]⟩
abbrev S2x8192x3840 : Shape := ⟨3, ![2, 8192, 3840]⟩
abbrev S2x8192 : Shape := ⟨2, ![2, 8192]⟩

class Facts : Prop where
  shapeCasts_S2x16384x1280_S2x8192x2560 : S2x16384x1280.ShapeCasts S2x8192x2560
  slices_S2x8192x2560_S2x8191x1280_0_0_1280 : S2x8192x2560.Slices ![0, 0, 1280] S2x8191x1280
  pads_S2x8191x1280_S2x8192x1280_000_100_000 : S2x8191x1280.Pads (![0, 1, 0] : Fin 3 → Nat) ![0, 0, 0] ![0, 0, 0] S2x8192x1280
  h_S_ : 0 < S_.numel
  concatenates_S2x8192x1280_S2x8192x2560_S2x8192x3840_d2 : Shape.Concatenates [S2x8192x1280, S2x8192x2560] S2x8192x3840 2
  bitsLt_bf16_f32 : FTy.bits .bf16 < FTy.bits .f32
  reducesTo_S2x8192x3840_S2x8192_d2 : S2x8192x3840.ReducesTo [2] S2x8192
  bcast_S_S2x8192 : S_.BroadcastsInDim S2x8192 (![] : Fin 0 → Fin S2x8192.rank)
  reducesTo_S2x8192_S_d0_1 : S2x8192.ReducesTo [0, 1] S_

variable [Facts]

def fn_pad {F : FTy → Type} [FloatOps F] (arg0 : FVec F S2x8191x1280 .bf16) (arg1 : IVec S_ 32) : FVec F S2x8192x1280 .bf16 :=
  let v0 : FVec F S_ .bf16 := sitofp .bf16 arg1
  let v1 : FVec F S2x8192x1280 .bf16 := (fun x v => pad S2x8192x1280 ![0, 1, 0] ![0, 0, 0] ![0, 0, 0] x v pads_S2x8191x1280_S2x8192x1280_000_100_000 h_S_) arg0 v0
  v1

def fn_part1 {F : FTy → Type} [FloatOps F] (main_v16 : IVec S2x8192 1) (main_c_4 : IVec S_ 1) : IVec S_ 1 :=
  let main_v17 : IVec S_ 1 := (fun x v => Host.reduce IntOp.andi x v reducesTo_S2x8192_S_d0_1 h_S_) main_v16 main_c_4
  main_v17

def fn {F : FTy → Type} [FloatOps F] (main_arg0 : FVec F S2x16384x1280 .bf16) (main_arg1 : FVec F S3840x2048 .fp8e4m3) (main_arg2 : FVec F S2048 .f32) (main_arg3 : FVec F S2048 .f32) : IVec S_ 1 :=
  let main_v0 : FVec F S2x8192x2560 .bf16 := shapeCast S2x8192x2560 main_arg0 shapeCasts_S2x16384x1280_S2x8192x2560
  let main_v1 : FVec F S2x8191x1280 .bf16 := (extractStridedSlice S2x8191x1280 ![0, 0, 1280] · slices_S2x8192x2560_S2x8191x1280_0_0_1280) main_v0
  let main_c : IVec S_ 32 := constantI S_ 32 0#32
  let main_v2 : FVec F S2x8192x1280 .bf16 := fn_pad (F := F) main_v1 main_c
  let main_v3 : FVec F S2x8192x3840 .bf16 := (fun a b => concatenate S2x8192x3840 2 [⟨S2x8192x1280, a⟩, ⟨S2x8192x2560, b⟩] concatenates_S2x8192x1280_S2x8192x2560_S2x8192x3840_d2) main_v2 main_v0
  let main_v4 : FVec F S2x8192x3840 .f32 := (extf .f32 · bitsLt_bf16_f32) main_v3
  let main_v5 : FVec F S2x8192x3840 .f32 := Host.absf main_v4
  let main_cst : FVec F S_ .f32 := constant S_ .f32 0xFF800000#32
  let main_v6 : FVec F S2x8192 .f32 := (fun x v => Host.reduce FloatOps.maximumf x v reducesTo_S2x8192x3840_S2x8192_d2 h_S_) main_v5 main_cst
  let main_cst_0 : FVec F S_ .f32 := constant S_ .f32 0x3B124925#32
  let main_v7 : FVec F S2x8192 .f32 := broadcastInDim S2x8192 ![] bcast_S_S2x8192 main_cst_0
  let main_v8 : FVec F S2x8192 .f32 := mulf main_v6 main_v7
  let main_cst_1 : FVec F S_ .f32 := constant S_ .f32 0x00000000#32
  let main_v9 : FVec F S2x8192 .f32 := broadcastInDim S2x8192 ![] bcast_S_S2x8192 main_cst_1
  let main_v10 : IVec S2x8192 1 := cmpf .oeq main_v6 main_v9
  let main_cst_2 : FVec F S_ .f32 := constant S_ .f32 0x00800000#32
  let main_v11 : FVec F S2x8192 .f32 := broadcastInDim S2x8192 ![] bcast_S_S2x8192 main_cst_2
  let main_v12 : IVec S2x8192 1 := cmpf .oge main_v8 main_v11
  let main_cst_3 : FVec F S_ .f32 := constant S_ .f32 0x7E800000#32
  let main_v13 : FVec F S2x8192 .f32 := broadcastInDim S2x8192 ![] bcast_S_S2x8192 main_cst_3
  let main_v14 : IVec S2x8192 1 := cmpf .olt main_v8 main_v13
  let main_v15 : IVec S2x8192 1 := andi main_v12 main_v14
  let main_v16 : IVec S2x8192 1 := ori main_v10 main_v15
  let main_c_4 : IVec S_ 1 := constantI S_ 1 1#1
  fn_part1 (F := F) main_v16 main_c_4
-- ==== Kernel.lean ====
abbrev S2x16384x1280 : Shape := ⟨3, ![2, 16384, 1280]⟩
abbrev S3840x2048 : Shape := ⟨2, ![3840, 2048]⟩
abbrev S2048 : Shape := ⟨1, ![2048]⟩
abbrev S1x2048 : Shape := ⟨2, ![1, 2048]⟩
abbrev S2x8192x2048 : Shape := ⟨3, ![2, 8192, 2048]⟩
abbrev S2x8192x3840 : Shape := ⟨3, ![2, 8192, 3840]⟩
abbrev S2x8192 : Shape := ⟨2, ![2, 8192]⟩
abbrev S1x1024x1280 : Shape := ⟨3, ![1, 1024, 1280]⟩
abbrev S1x512x2048 : Shape := ⟨3, ![1, 512, 2048]⟩
abbrev S1x512x3840 : Shape := ⟨3, ![1, 512, 3840]⟩
abbrev S8x1280 : Shape := ⟨2, ![8, 1280]⟩
abbrev S8x128 : Shape := ⟨2, ![8, 128]⟩
abbrev S1x1024x128 : Shape := ⟨3, ![1, 1024, 128]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S520x128 : Shape := ⟨2, ![520, 128]⟩
abbrev S128x128 : Shape := ⟨2, ![128, 128]⟩
abbrev S2x128 : Shape := ⟨2, ![2, 128]⟩
abbrev S128 : Shape := ⟨1, ![128]⟩
abbrev S1x128 : Shape := ⟨2, ![1, 128]⟩
abbrev S1x512x128 : Shape := ⟨3, ![1, 512, 128]⟩
abbrev S512x3840 : Shape := ⟨2, ![512, 3840]⟩
abbrev S3840x256 : Shape := ⟨2, ![3840, 256]⟩
abbrev S512x256 : Shape := ⟨2, ![512, 256]⟩
abbrev S1x256 : Shape := ⟨2, ![1, 256]⟩
abbrev S1x512x256 : Shape := ⟨3, ![1, 512, 256]⟩

abbrev nBuf : Space → Nat
  | .hbm => 9
  | .vmem => 12
  | .smem => 0
  | _ => 0

abbrev bufTy : (tb : Table) → Fin (tcTables nBuf tb) → BufTy
  | .hbm, ⟨0, _⟩ => ⟨S2x16384x1280, .bf16⟩
  | .hbm, ⟨1, _⟩ => ⟨S3840x2048, .fp8e4m3⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2x8192x2048, .bf16⟩
  | .hbm, ⟨7, _⟩ => ⟨S2x8192x3840, .fp8e4m3⟩
  | .hbm, ⟨8, _⟩ => ⟨S2x8192, .f32⟩
  | .local _ .vmem, ⟨0, _⟩ => ⟨S1x1024x1280, .bf16⟩
  | .local _ .vmem, ⟨1, _⟩ => ⟨S1x1024x1280, .bf16⟩
  | .local _ .vmem, ⟨2, _⟩ => ⟨S3840x2048, .fp8e4m3⟩
  | .local _ .vmem, ⟨3, _⟩ => ⟨S1x2048, .f32⟩
  | .local _ .vmem, ⟨4, _⟩ => ⟨S1x2048, .f32⟩
  | .local _ .vmem, ⟨5, _⟩ => ⟨S1x512x2048, .bf16⟩
  | .local _ .vmem, ⟨6, _⟩ => ⟨S1x512x2048, .bf16⟩
  | .local _ .vmem, ⟨7, _⟩ => ⟨S1x512x3840, .fp8e4m3⟩
  | .local _ .vmem, ⟨8, _⟩ => ⟨S1x512x3840, .fp8e4m3⟩
  | .local _ .vmem, ⟨9, _⟩ => ⟨S2x8192, .f32⟩
  | .local _ .vmem, ⟨10, _⟩ => ⟨S8x1280, .i32⟩
  | .local _ .vmem, ⟨11, _⟩ => ⟨S8x128, .f32⟩
  | _, _ => ⟨S2x16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [BitOps F]

abbrev grid0 : Pipeline.Grid := ⟨1, ![32], ![false]⟩

def k0_mult1 (i : grid0.Coords) : BitVec 32 :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v161 : BitVec 32 := Scalar.muli v26 c512_i32
  let c0_i32_49 : BitVec 32 := 0#32
  let v162 : BitVec 32 := Scalar.addi v161 c0_i32_49
  v162
def k0_off1 (i : grid0.Coords) (c0_i32_49 : BitVec 32) : Fin 2 → Nat :=
  let c0_50 : Index := 0#32
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v161 : BitVec 32 := Scalar.muli v26 c512_i32
  let v162 : BitVec 32 := Scalar.addi v161 c0_i32_49
  let v163 : BitVec 32 := v162
  let v166 : Index := Scalar.indexCast v163
  ![0, v166.toNat]
def k0_mult2 (i : grid0.Coords) : BitVec 32 :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32_54 : BitVec 32 := 512#32
  let v180 : BitVec 32 := Scalar.muli v26 c512_i32_54
  let c128_i32 : BitVec 32 := 128#32
  let v181 : BitVec 32 := Scalar.addi v180 c128_i32
  v181
def k0_mult3 (i : grid0.Coords) : BitVec 32 :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32_59 : BitVec 32 := 512#32
  let v199 : BitVec 32 := Scalar.muli v26 c512_i32_59
  let c256_i32 : BitVec 32 := 256#32
  let v200 : BitVec 32 := Scalar.addi v199 c256_i32
  v200
def k0_mult4 (i : grid0.Coords) : BitVec 32 :=
  let arg0 : BitVec 32 := BitVec.ofNat 32 (i 0).val
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32_64 : BitVec 32 := 512#32
  let v218 : BitVec 32 := Scalar.muli v26 c512_i32_64
  let c384_i32 : BitVec 32 := 384#32
  let v219 : BitVec 32 := Scalar.addi v218 c384_i32
  v219
def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x3840 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S8x2x1280 : Shape := ⟨3, ![8, 2, 1280]⟩
abbrev S8x1x1280 : Shape := ⟨3, ![8, 1, 1280]⟩
abbrev S8x2x128 : Shape := ⟨3, ![8, 2, 128]⟩
abbrev S8x1x128 : Shape := ⟨3, ![8, 1, 128]⟩
  | .local _ .vmem, ⟨10, _⟩ => ⟨S8x2x1280, .bf16⟩
variable {F : FTy → Type} [FloatOps F] [Named F]
def κ : String → Option EReal := fun
  | "sqrt_half" => some (((Real.sqrt 2)⁻¹ : ℝ) : EReal)
  | _ => none
-- ==== ReferenceIdeal.lean ====
abbrev S2x16384x1280 : Shape := ⟨3, ![2, 16384, 1280]⟩
abbrev S3840x2048 : Shape := ⟨2, ![3840, 2048]⟩
abbrev S2048 : Shape := ⟨1, ![2048]⟩
abbrev S2x8192x2560 : Shape := ⟨3, ![2, 8192, 2560]⟩
abbrev S2x8191x1280 : Shape := ⟨3, ![2, 8191, 1280]⟩
abbrev S_ : Shape := ⟨0, ![]⟩
abbrev S2x8192x1280 : Shape := ⟨3, ![2, 8192, 1280]⟩
abbrev S2x8192x3840 : Shape := ⟨3, ![2, 8192, 3840]⟩
abbrev S2x8192x2048 : Shape := ⟨3, ![2, 8192, 2048]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 14
  | .vmem => 7
  | .smem => 0
  | _ => 0

abbrev bufTy : (tb : Table) → Fin (tcTables nBuf tb) → BufTy
  | .hbm, ⟨0, _⟩ => ⟨S2x16384x1280, .bf16⟩
  | .hbm, ⟨1, _⟩ => ⟨S3840x2048, .fp8e4m3⟩
  | .hbm, ⟨2, _⟩ => ⟨S2048, .f32⟩
  | .hbm, ⟨3, _⟩ => ⟨S2048, .f32⟩
  | .hbm, ⟨4, _⟩ => ⟨S2x8192x2560, .bf16⟩
  | .hbm, ⟨5, _⟩ => ⟨S2x8191x1280, .bf16⟩
  | .hbm, ⟨6, _⟩ => ⟨S_, .i32⟩
  | .hbm, ⟨7, _⟩ => ⟨S_, .bf16⟩
  | .hbm, ⟨8, _⟩ => ⟨S2x8192x1280, .bf16⟩
  | .hbm, ⟨9, _⟩ => ⟨S2x8192x3840, .bf16⟩
  | .hbm, ⟨10, _⟩ => ⟨S2x8192x3840, .f32⟩
  | .hbm, ⟨11, _⟩ => ⟨S2x8192x2048, .bf16⟩
  | .hbm, ⟨12, _⟩ => ⟨S2x8192x3840, .fp8e4m3⟩
  | .hbm, ⟨13, _⟩ => ⟨S2x8192, .f32⟩
  | .local _ .vmem, ⟨0, _⟩ => ⟨S2x8192x3840, .f32⟩
  | .local _ .vmem, ⟨1, _⟩ => ⟨S3840x2048, .fp8e4m3⟩
  | .local _ .vmem, ⟨2, _⟩ => ⟨S2048, .f32⟩
  | .local _ .vmem, ⟨3, _⟩ => ⟨S2048, .f32⟩
  | .local _ .vmem, ⟨4, _⟩ => ⟨S2x8192x2048, .bf16⟩
  | .local _ .vmem, ⟨5, _⟩ => ⟨S2x8192x3840, .fp8e4m3⟩
  | .local _ .vmem, ⟨6, _⟩ => ⟨S2x8192, .f32⟩
  | _, _ => ⟨S2x16384x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_log_two" => some (((Real.log 2)⁻¹ : ℝ) : EReal)
  | "sqrt_half" => some (((Real.sqrt 2)⁻¹ : ℝ) : EReal)
  | _ => none

abbrev grid0 : Pipeline.Grid := .none

abbrev stage0_0 : Fin 1 → Memref sig .tc .vmem S2x8192x3840 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8192x3840 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRun.lean ====
/-
  The kernel's body, run once at symbolic operands: from its windows' staging buffers and its two scratch buffers,
  each held whole at any contents, it runs to its return and hands every one of them back, the inputs as they were.
-/
module

public import proofs.«01_k».proof.Proof.Gen.Kernel.Frame

@[expose] public section

set_option maxRecDepth 16384

noncomputable section

namespace Cert.Proof.KRun

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
/-- A scratch buffer on core `c`, held whole at `f`. -/
abbrev sc (c : Dev nD) {sp : Space} {S : Shape} {e : EltTy} (M : Memref sig .tc sp S e) (f : Bf (F := F) c M) : sProp 𝕄 :=
  M.view.loc (c : Thread nD τ) ↦{fullShare} f

/-- Where the scale row's stores of block `i` sit: the columns of the block, 128 at a time. -/
theorem off1_0 : ∀ i : grid0.Coords, k0_off1 i 0#32 = ![0, 512 * ((i 0).val % 16)] := by decide +kernel
theorem off1_1 : ∀ i : grid0.Coords, k0_off1 i 128#32 = ![0, 512 * ((i 0).val % 16) + 128] := by decide +kernel
theorem off1_2 : ∀ i : grid0.Coords, k0_off1 i 256#32 = ![0, 512 * ((i 0).val % 16) + 256] := by decide +kernel
theorem off1_3 : ∀ i : grid0.Coords, k0_off1 i 384#32 = ![0, 512 * ((i 0).val % 16) + 384] := by decide +kernel
instance (i : grid0.Coords) : ClosedOff (k0_off1 i 0#32) := ⟨_, off1_0 i⟩
instance (i : grid0.Coords) : ClosedOff (k0_off1 i 128#32) := ⟨_, off1_1 i⟩
instance (i : grid0.Coords) : ClosedOff (k0_off1 i 256#32) := ⟨_, off1_2 i⟩
instance (i : grid0.Coords) : ClosedOff (k0_off1 i 384#32) := ⟨_, off1_3 i⟩

/-- The body's triple, nothing said of what it leaves in its outputs and scratch. -/
theorem kernelRun (c : Dev nD) (i : grid0.Coords)
    (M0 : Memref sig .tc .vmem S1x1024x1280 .bf16) (h0 : M0.IsWhole) (M1 : Memref sig .tc .vmem S3840x2048 .fp8e4m3) (h1 : M1.IsWhole)
    (M2 : Memref sig .tc .vmem S1x2048 .f32) (h2 : M2.IsWhole) (M3 : Memref sig .tc .vmem S1x2048 .f32) (h3 : M3.IsWhole)
    (M4 : Memref sig .tc .vmem S1x512x2048 .bf16) (h4 : M4.IsWhole) (M5 : Memref sig .tc .vmem S1x512x3840 .fp8e4m3) (h5 : M5.IsWhole)
    (M6 : Memref sig .tc .vmem S2x8192 .f32) (h6 : M6.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6)
    (fs : Bf (F := F) c (Memref.whole cc0_scratch0)) (ft : Bf (F := F) c (Memref.whole cc0_scratch1)) (Q : PUnit → sProp 𝕄) :
    iprop(pt c M0 f0 ∗ pt c M1 f1 ∗ pt c M2 f2 ∗ pt c M3 f3 ∗ pt c M4 f4 ∗ pt c M5 f5 ∗ pt c M6 f6
      ∗ sc c (Memref.whole cc0_scratch0) fs ∗ sc c (Memref.whole cc0_scratch1) ft
      ∗ (iprop(pt c M0 f0 ∗ pt c M1 f1 ∗ pt c M2 f2 ∗ pt c M3 f3 ∗ (∃ f, pt c M4 f) ∗ (∃ f, pt c M5 f) ∗ (∃ f, pt c M6 f)
            ∗ (∃ f, sc c (Memref.whole cc0_scratch0) f) ∗ (∃ f, sc c (Memref.whole cc0_scratch1) f)) -∗ Q ⟨⟩))
    ⊢ wp frame (wpE (defs₀ (F := F)) Variants.none c none) Set.univ
        (cc0_conv_fp8_gelu i M0 h0 M1 h1 M2 h2 M3 h3 M4 h4 M5 h5 M6 h6 (Memref.whole cc0_scratch0) (Memref.isWhole_whole _) (Memref.whole cc0_scratch1) (Memref.isWhole_whole _)) Q := by
  iintro ⟨H0, H1, H2, H3, H4, H5, H6, Hs, Ht, Hk⟩
  sl_exec_parts
  sl_step
  iapply Hk
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [Hs]; · iexists _; iexact Hs
  iexists _; iexact Ht

end Cert.Proof.KRun

end
-- ==== Proof.KFrame.lean ====
/-
  The kernel's frame: over the body's run at any contents (`KRun.kernelRun`), every execution of the program ends, with
  its argument arrays as they were and every semaphore counter at zero.  Of the outputs nothing is said here.
-/
module

public import proofs.«01_k».proof.Proof.KRun

@[expose] public section

set_option maxRecDepth 16384

noncomputable section

namespace Cert.Proof.KRun

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: arrays as the region finds them; of what the body leaves in a staging buffer, nothing is said. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at any point, its staging buffers at any contents. -/
theorem sound_body (c : Dev nD) (t : Fin cfg0.N)
    (Y0 : Vec F S1x1024x1280 .bf16) (Y1 : Vec F S3840x2048 .fp8e4m3) (Y2 : Vec F S1x2048 .f32) (Y3 : Vec F S1x2048 .f32)
    (Y4 : Vec F S1x512x2048 .bf16) (Y5 : Vec F S1x512x3840 .fp8e4m3) (Y6 : Vec F S2x8192 .f32) (O O' : sProp 𝕄) (hO : O = O') :
    iprop(Pipeline.ΦA (Val := Elt F) spec0 c ∗ O
      ∗ owns (c : Thread nD τ) (st0_0 t) fullShare Y0 ∗ owns (c : Thread nD τ) (st0_1 t) fullShare Y1
      ∗ owns (c : Thread nD τ) (st0_2 t) fullShare Y2 ∗ owns (c : Thread nD τ) (st0_3 t) fullShare Y3
      ∗ owns (c : Thread nD τ) (st0_4 t) fullShare Y4 ∗ owns (c : Thread nD τ) (st0_5 t) fullShare Y5
      ∗ owns (c : Thread nD τ) (st0_6 t) fullShare Y6)
    ⊢ wp frame (wpE (defs₀ (F := F)) Variants.none c none) Set.univ (bodyAt0 t) (fun _ => iprop(Pipeline.ΦA (Val := Elt F) spec0 c ∗ O'
      ∗ (∃ X, ⌜True⌝ ∗ owns (c : Thread nD τ) (st0_0 t) fullShare X) ∗ (∃ X, ⌜True⌝ ∗ owns (c : Thread nD τ) (st0_1 t) fullShare X)
      ∗ (∃ X, ⌜True⌝ ∗ owns (c : Thread nD τ) (st0_2 t) fullShare X) ∗ (∃ X, ⌜True⌝ ∗ owns (c : Thread nD τ) (st0_3 t) fullShare X)
      ∗ (∃ X, ⌜True⌝ ∗ owns (c : Thread nD τ) (st0_4 t) fullShare X) ∗ (∃ X, ⌜True⌝ ∗ owns (c : Thread nD τ) (st0_5 t) fullShare X)
      ∗ (∃ X, ⌜True⌝ ∗ owns (c : Thread nD τ) (st0_6 t) fullShare X))) := by
  subst hO
  unfold owns Pipeline.ΦA
  rw [scopedRest0_eq]
  iintro ⟨⟨⟨⟨%fs, Hs⟩, ⟨%ft, Ht⟩⟩, Hr⟩, Ho, ⟨%f0, -, H0⟩, ⟨%f1, -, H1⟩, ⟨%f2, -, H2⟩, ⟨%f3, -, H3⟩, ⟨%f4, -, H4⟩, ⟨%f5, -, H5⟩, ⟨%f6, -, H6⟩⟩
  iapply (kernelRun c (grid0.coords t) _ _ _ _ _ _ _ _ _ _ _ _ _ _ f0 f1 f2 f3 f4 f5 f6 fs ft _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  isplitl [Ht]; · iexact Ht
  iintro ⟨H0, H1, H2, H3, ⟨%g4, H4⟩, ⟨%g5, H5⟩, ⟨%g6, H6⟩, ⟨%gs, Hs⟩, ⟨%gt, Ht⟩⟩
  isplitl [Hs Ht Hr]
  · isplitl [Hs Ht]
    · isplitl [Hs]
      · iexists _; iexact Hs
      · iexists _; iexact Ht
    · iexact Hr
  isplitl [Ho]; · iexact Ho
  isplitl [H0]
  · iexists _; isplitr; · ipureintro; trivial
    iexists _; isplitr
    swap; · iexact H0
    ipureintro; rfl
  isplitl [H1]
  · iexists _; isplitr; · ipureintro; trivial
    iexists _; isplitr
    swap; · iexact H1
    ipureintro; rfl
  isplitl [H2]
  · iexists _; isplitr; · ipureintro; trivial
    iexists _; isplitr
    swap; · iexact H2
    ipureintro; rfl
  isplitl [H3]
  · iexists _; isplitr; · ipureintro; trivial
    iexists _; isplitr
    swap; · iexact H3
    ipureintro; rfl
  isplitl [H4]
  · iexists _; isplitr; · ipureintro; trivial
    iexists _; isplitr
    swap; · iexact H4
    ipureintro; rfl
  isplitl [H5]
  · iexists _; isplitr; · ipureintro; trivial
    iexists _; isplitr
    swap; · iexact H5
    ipureintro; rfl
  iexists _; isplitr; · ipureintro; trivial
  iexists _; isplitr
  swap; · iexact H6
  ipureintro; rfl

/-- The library's body obligation, at every point. -/
theorem body_obligation (c : Dev nD) : (rdat (F := F) m c).BodyObligation (defs₀ (F := F)) Variants.none () Set.univ := fun t Y _ => by
  rw [bigSep_W0, bigSep_W0, defs₀_row]
  exact triple_restated (sound_body c t (Y 0) (Y 1) (Y 2) (Y 3) (Y 4) (Y 5) (Y 6) ((rdat (F := F) m c).owesAt () t.castSucc) ((rdat (F := F) m c).owesAt () t.succ) rfl) rfl .rfl fun _ => .rfl

set_option backward.isDefEq.respectTransparency.types false in
set_option maxHeartbeats 800000 in
/-- The launch: every execution ends, the arrays at contents the proof data allow, every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun c w => by dsimp only [rdat]) (hΦ := fun _ _ => rfl)

/-- THE FRAME: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.KRun

end
-- ==== Proof.IRun.lean ====
/-
  The kernel's body, run once at symbolic operands: from its windows' staging buffers and its two scratch buffers,
  each held whole at any contents, it runs to its return and hands every one of them back, the inputs as they were.
-/
module

public import proofs.«01_k».proof.Proof.Gen.KernelIdeal.Frame

@[expose] public section

set_option maxRecDepth 16384

noncomputable section

namespace Cert.Proof.IRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f
/-- A scratch buffer on core `c`, held whole at `f`. -/
abbrev sc (c : Dev nD) {sp : Space} {S : Shape} {e : EltTy} (M : Memref sig .tc sp S e) (f : Bf (F := F) c M) : sProp 𝕄 :=
  M.view.loc (c : Thread nD τ) ↦{fullShare} f

/-- Where the scale row's stores of block `i` sit: the columns of the block, 128 at a time. -/
theorem off1_0 : ∀ i : grid0.Coords, k0_off1 i 0#32 = ![0, 512 * ((i 0).val % 16)] := by decide +kernel
theorem off1_1 : ∀ i : grid0.Coords, k0_off1 i 128#32 = ![0, 512 * ((i 0).val % 16) + 128] := by decide +kernel
theorem off1_2 : ∀ i : grid0.Coords, k0_off1 i 256#32 = ![0, 512 * ((i 0).val % 16) + 256] := by decide +kernel
theorem off1_3 : ∀ i : grid0.Coords, k0_off1 i 384#32 = ![0, 512 * ((i 0).val % 16) + 384] := by decide +kernel
instance (i : grid0.Coords) : ClosedOff (k0_off1 i 0#32) := ⟨_, off1_0 i⟩
instance (i : grid0.Coords) : ClosedOff (k0_off1 i 128#32) := ⟨_, off1_1 i⟩
instance (i : grid0.Coords) : ClosedOff (k0_off1 i 256#32) := ⟨_, off1_2 i⟩
instance (i : grid0.Coords) : ClosedOff (k0_off1 i 384#32) := ⟨_, off1_3 i⟩

/-- What the body leaves in its three output buffers and its two scratch buffers, with its triple: the run of every
    statement, both ways of each branch. -/
noncomputable def run (c : Dev nD) (i : grid0.Coords)
    (M0 : Memref sig .tc .vmem S1x1024x1280 .bf16) (h0 : M0.IsWhole) (M1 : Memref sig .tc .vmem S3840x2048 .fp8e4m3) (h1 : M1.IsWhole)
    (M2 : Memref sig .tc .vmem S1x2048 .f32) (h2 : M2.IsWhole) (M3 : Memref sig .tc .vmem S1x2048 .f32) (h3 : M3.IsWhole)
    (M4 : Memref sig .tc .vmem S1x512x2048 .bf16) (h4 : M4.IsWhole) (M5 : Memref sig .tc .vmem S1x512x3840 .fp8e4m3) (h5 : M5.IsWhole)
    (M6 : Memref sig .tc .vmem S2x8192 .f32) (h6 : M6.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6)
    (fs : Bf (F := F) c (Memref.whole cc0_scratch0)) (ft : Bf (F := F) c (Memref.whole cc0_scratch1)) :
    { g : Bf (F := F) c M4 × Bf (F := F) c M5 × Bf (F := F) c M6 × Bf (F := F) c (Memref.whole cc0_scratch0) × Bf (F := F) c (Memref.whole cc0_scratch1) //
      ∀ Q : PUnit → sProp 𝕄,
      iprop(pt c M0 f0 ∗ pt c M1 f1 ∗ pt c M2 f2 ∗ pt c M3 f3 ∗ pt c M4 f4 ∗ pt c M5 f5 ∗ pt c M6 f6
        ∗ sc c (Memref.whole cc0_scratch0) fs ∗ sc c (Memref.whole cc0_scratch1) ft
        ∗ (iprop(pt c M0 f0 ∗ pt c M1 f1 ∗ pt c M2 f2 ∗ pt c M3 f3 ∗ pt c M4 g.1 ∗ pt c M5 g.2.1 ∗ pt c M6 g.2.2.1
              ∗ sc c (Memref.whole cc0_scratch0) g.2.2.2.1 ∗ sc c (Memref.whole cc0_scratch1) g.2.2.2.2) -∗ Q ⟨⟩))
      ⊢ wp frame (wpE (defs₀ (F := F)) Variants.none c none) Set.univ
          (cc0_conv_fp8_gelu i M0 h0 M1 h1 M2 h2 M3 h3 M4 h4 M5 h5 M6 h6 (Memref.whole cc0_scratch0) (Memref.isWhole_whole _) (Memref.whole cc0_scratch1) (Memref.isWhole_whole _)) Q } := by
  refine ⟨⟨?g4, ?g5, ?g6, ?gs, ?gt⟩, fun Q => ?_⟩
  rotate_right
  · iintro ⟨H0, H1, H2, H3, H4, H5, H6, Hs, Ht, Hk⟩
    sl_exec_parts
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hs]; · iexact Hs
    iexact Ht

end Cert.Proof.IRun

end
-- ==== Proof.IFrame.lean ====
/-
  The kernel's frame: over the body's run at any contents (`IRun.run`), every execution of the program ends, with
  its argument arrays as they were and every semaphore counter at zero.  Of the outputs nothing is said here.
-/
module

public import proofs.«01_k».proof.Proof.IRun

@[expose] public section

set_option maxRecDepth 16384

noncomputable section

namespace Cert.Proof.IRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: arrays as the region finds them; of what the body leaves in a staging buffer, nothing is said. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at any point, its staging buffers at any contents. -/
theorem sound_body (c : Dev nD) (t : Fin cfg0.N)
    (Y0 : Vec F S1x1024x1280 .bf16) (Y1 : Vec F S3840x2048 .fp8e4m3) (Y2 : Vec F S1x2048 .f32) (Y3 : Vec F S1x2048 .f32)
    (Y4 : Vec F S1x512x2048 .bf16) (Y5 : Vec F S1x512x3840 .fp8e4m3) (Y6 : Vec F S2x8192 .f32) (O O' : sProp 𝕄) (hO : O = O') :
    iprop(Pipeline.ΦA (Val := Elt F) spec0 c ∗ O
      ∗ owns (c : Thread nD τ) (st0_0 t) fullShare Y0 ∗ owns (c : Thread nD τ) (st0_1 t) fullShare Y1
      ∗ owns (c : Thread nD τ) (st0_2 t) fullShare Y2 ∗ owns (c : Thread nD τ) (st0_3 t) fullShare Y3
      ∗ owns (c : Thread nD τ) (st0_4 t) fullShare Y4 ∗ owns (c : Thread nD τ) (st0_5 t) fullShare Y5
      ∗ owns (c : Thread nD τ) (st0_6 t) fullShare Y6)
    ⊢ wp frame (wpE (defs₀ (F := F)) Variants.none c none) Set.univ (bodyAt0 t) (fun _ => iprop(Pipeline.ΦA (Val := Elt F) spec0 c ∗ O'
      ∗ (∃ X, ⌜True⌝ ∗ owns (c : Thread nD τ) (st0_0 t) fullShare X) ∗ (∃ X, ⌜True⌝ ∗ owns (c : Thread nD τ) (st0_1 t) fullShare X)
      ∗ (∃ X, ⌜True⌝ ∗ owns (c : Thread nD τ) (st0_2 t) fullShare X) ∗ (∃ X, ⌜True⌝ ∗ owns (c : Thread nD τ) (st0_3 t) fullShare X)
      ∗ (∃ X, ⌜True⌝ ∗ owns (c : Thread nD τ) (st0_4 t) fullShare X) ∗ (∃ X, ⌜True⌝ ∗ owns (c : Thread nD τ) (st0_5 t) fullShare X)
      ∗ (∃ X, ⌜True⌝ ∗ owns (c : Thread nD τ) (st0_6 t) fullShare X))) := by
  subst hO
  unfold owns Pipeline.ΦA
  rw [scopedRest0_eq]
  iintro ⟨⟨⟨⟨%fs, Hs⟩, ⟨%ft, Ht⟩⟩, Hr⟩, Ho, ⟨%f0, -, H0⟩, ⟨%f1, -, H1⟩, ⟨%f2, -, H2⟩, ⟨%f3, -, H3⟩, ⟨%f4, -, H4⟩, ⟨%f5, -, H5⟩, ⟨%f6, -, H6⟩⟩
  iapply ((run c (grid0.coords t) _ _ _ _ _ _ _ _ _ _ _ _ _ _ f0 f1 f2 f3 f4 f5 f6 fs ft).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  isplitl [Ht]; · iexact Ht
  iintro ⟨H0, H1, H2, H3, H4, H5, H6, Hs, Ht⟩
  isplitl [Hs Ht Hr]
  · isplitl [Hs Ht]
    · isplitl [Hs]
      · iexists _; iexact Hs
      · iexists _; iexact Ht
    · iexact Hr
  isplitl [Ho]; · iexact Ho
  isplitl [H0]
  · iexists _; isplitr; · ipureintro; trivial
    iexists _; isplitr
    swap; · iexact H0
    ipureintro; rfl
  isplitl [H1]
  · iexists _; isplitr; · ipureintro; trivial
    iexists _; isplitr
    swap; · iexact H1
    ipureintro; rfl
  isplitl [H2]
  · iexists _; isplitr; · ipureintro; trivial
    iexists _; isplitr
    swap; · iexact H2
    ipureintro; rfl
  isplitl [H3]
  · iexists _; isplitr; · ipureintro; trivial
    iexists _; isplitr
    swap; · iexact H3
    ipureintro; rfl
  isplitl [H4]
  · iexists _; isplitr; · ipureintro; trivial
    iexists _; isplitr
    swap; · iexact H4
    ipureintro; rfl
  isplitl [H5]
  · iexists _; isplitr; · ipureintro; trivial
    iexists _; isplitr
    swap; · iexact H5
    ipureintro; rfl
  iexists _; isplitr; · ipureintro; trivial
  iexists _; isplitr
  swap; · iexact H6
  ipureintro; rfl

/-- The library's body obligation, at every point. -/
theorem body_obligation (c : Dev nD) : (rdat (F := F) m c).BodyObligation (defs₀ (F := F)) Variants.none () Set.univ := fun t Y _ => by
  rw [bigSep_W0, bigSep_W0, defs₀_row]
  exact triple_restated (sound_body c t (Y 0) (Y 1) (Y 2) (Y 3) (Y 4) (Y 5) (Y 6) ((rdat (F := F) m c).owesAt () t.castSucc) ((rdat (F := F) m c).owesAt () t.succ) rfl) rfl .rfl fun _ => .rfl

set_option backward.isDefEq.respectTransparency.types false in
set_option maxHeartbeats 800000 in
/-- The launch: every execution ends, the arrays at contents the proof data allow, every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun c w => by dsimp only [rdat]) (hΦ := fun _ _ => rfl)

/-- THE FRAME: the argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Proof.IRun

end
-- ==== Proof.Scale.lean ====
/-
  The power of two a row is scaled by, as a function of the scaled maximum `s`: the kernel's, found bit by bit in the
  exponent field, and the reference's, by a logarithm, a floor and an exponential; and that they are one number
  where `s` is a normal number below the largest binade, or zero.
-/
module

public import Idealize.ShloMosaic.PureOps
public import Idealize.ShloMosaic.PureOps.Ideal
public import Idealize.ShloMosaic.Lib.IdealHost

@[expose] public section

noncomputable section

namespace Cert.Proof.Spec

open Idealize.ShloMosaic

/-- One step of the search: the field with `n` added, where the number of that field is not above `s`. -/
def fieldStep (s : EReal) (g n : BitVec 32) : BitVec 32 :=
  if Ideal.ofBits .f32 (IntOp.addi g n) ≤ s then IntOp.addi g n else g

/-- The exponent field found, from the highest bit to the lowest. -/
def field (s : EReal) : BitVec 32 :=
  fieldStep s (fieldStep s (fieldStep s (fieldStep s (fieldStep s (fieldStep s (fieldStep s (fieldStep s 0#32
    1073741824#32) 536870912#32) 268435456#32) 134217728#32) 67108864#32) 33554432#32) 16777216#32) 8388608#32

/-- The kernel's scale of a row. -/
def kscale (s : EReal) : EReal :=
  if s = 0 then Ideal.ofBits .f32 1065353216#32 else Ideal.ofBits .f32 (IntOp.addi (field s) 8388608#32)

/-- The kernel's reciprocal scale of a row. -/
def kinv (s : EReal) : EReal :=
  if s = 0 then Ideal.ofBits .f32 1065353216#32 else Ideal.ofBits .f32 (IntOp.subi 2122317824#32 (field s))

/-- The exponent of the reference's scale. -/
def rexp (s : EReal) : EReal :=
  if s = 0 then 0 else Ideal.liftRound Int.floor (Ideal.log s * (((Real.log 2)⁻¹ : ℝ) : EReal)) + 1

/-- A word with the exponent field `m` and nothing else is a power of two. -/
theorem ofBits_pow (m : Nat) (h1 : 1 ≤ m) (h2 : m ≤ 254) :
    Ideal.ofBits .f32 (BitVec.ofNat 32 (m * 8388608)) = (((2 : ℝ) ^ ((m : ℤ) - 127) : ℝ) : EReal) := by
  have key : ∀ m : Fin 256, ((BitVec.ofNat 32 (m.val * 8388608)).extractLsb' (8 + 23) 1 == 1#1) = false
      ∧ ((BitVec.ofNat 32 (m.val * 8388608)).extractLsb' 23 8).toNat = m.val
      ∧ ((BitVec.ofNat 32 (m.val * 8388608)).extractLsb' 0 23).toNat = 0 := by decide +kernel
  obtain ⟨k1, k2, k3⟩ := key ⟨m, by omega⟩
  simp only at k1 k2 k3
  simp only [Ideal.ofBits, Ideal.ieee, k1, k2, k3]
  rw [if_neg (by norm_num; omega), if_neg (by omega)]
  congr 1
  have : (2 : ℝ) ^ ((m : ℤ) - 127) = 2 ^ (23 : ℕ) * (2 : ℝ) ^ ((m : ℤ) - 127 - 23) := by
    rw [← zpow_natCast, ← zpow_add₀ (by norm_num)]; congr 1; push_cast; ring
  rw [this]
  norm_num

/-- The word of the exponent field 255 is the infinity. -/
theorem ofBits_top : Ideal.ofBits .f32 (BitVec.ofNat 32 (255 * 8388608)) = ⊤ := by simp [Ideal.ofBits, Ideal.ieee]

/-- One step of the search, where `s` lies in the binade of the field `e`. -/
theorem fieldStep_eq {s : ℝ} {e : Nat} (he : 1 ≤ e ∧ e ≤ 252) (h1 : (2 : ℝ) ^ ((e : ℤ) - 127) ≤ s)
    (h2 : s < (2 : ℝ) ^ ((e : ℤ) - 126)) (m n : Nat) (hmn : 1 ≤ m + n) (hmn' : m + n ≤ 255) :
    fieldStep (s : EReal) (BitVec.ofNat 32 (m * 8388608)) (BitVec.ofNat 32 (n * 8388608))
      = BitVec.ofNat 32 ((if m + n ≤ e then m + n else m) * 8388608) := by
  have hadd : IntOp.addi (BitVec.ofNat 32 (m * 8388608)) (BitVec.ofNat 32 (n * 8388608))
      = BitVec.ofNat 32 ((m + n) * 8388608) := by
    show BitVec.ofNat 32 (m * 8388608) + BitVec.ofNat 32 (n * 8388608) = _
    rw [← BitVec.ofNat_add, Nat.add_mul]
  unfold fieldStep
  rw [hadd]
  by_cases h : m + n ≤ e
  · rw [if_pos h, if_pos]
    rw [ofBits_pow _ hmn (by omega), EReal.coe_le_coe_iff]
    exact le_trans (zpow_le_zpow_right₀ (by norm_num) (by omega)) h1
  · rw [if_neg h, if_neg]
    by_cases ht : m + n = 255
    · rw [ht, ofBits_top]; simp
    · rw [ofBits_pow _ hmn (by omega), EReal.coe_le_coe_iff, not_le]
      exact lt_of_lt_of_le h2 (zpow_le_zpow_right₀ (by norm_num) (by omega))

/-- The search on the fields alone ends at the field sought. -/
theorem search_eq : ∀ e : Fin 256, (let f := fun m n => if m + n ≤ e.val then m + n else m
    f (f (f (f (f (f (f (f 0 128) 64) 32) 16) 8) 4) 2) 1) = e.val := by decide +kernel

/-- The field found is the field of `s`'s binade. -/
theorem field_eq {s : ℝ} {e : Nat} (he : 1 ≤ e ∧ e ≤ 252) (h1 : (2 : ℝ) ^ ((e : ℤ) - 127) ≤ s)
    (h2 : s < (2 : ℝ) ^ ((e : ℤ) - 126)) : field (s : EReal) = BitVec.ofNat 32 (e * 8388608) := by
  have st := fun m n hm hn => fieldStep_eq he h1 h2 m n hm hn
  have hsearch := search_eq ⟨e, by omega⟩
  simp only at hsearch
  have r1 := st 0 128 (by omega) (by omega)
  generalize hx1 : (if 0 + 128 ≤ e then 0 + 128 else 0) = x1 at r1 hsearch
  have b1 : x1 ≤ 128 := by split_ifs at hx1 <;> omega
  have r2 := st x1 64 (by omega) (by omega)
  generalize hx2 : (if x1 + 64 ≤ e then x1 + 64 else x1) = x2 at r2 hsearch
  have b2 : x2 ≤ 192 := by split_ifs at hx2 <;> omega
  have r3 := st x2 32 (by omega) (by omega)
  generalize hx3 : (if x2 + 32 ≤ e then x2 + 32 else x2) = x3 at r3 hsearch
  have b3 : x3 ≤ 224 := by split_ifs at hx3 <;> omega
  have r4 := st x3 16 (by omega) (by omega)
  generalize hx4 : (if x3 + 16 ≤ e then x3 + 16 else x3) = x4 at r4 hsearch
  have b4 : x4 ≤ 240 := by split_ifs at hx4 <;> omega
  have r5 := st x4 8 (by omega) (by omega)
  generalize hx5 : (if x4 + 8 ≤ e then x4 + 8 else x4) = x5 at r5 hsearch
  have b5 : x5 ≤ 248 := by split_ifs at hx5 <;> omega
  have r6 := st x5 4 (by omega) (by omega)
  generalize hx6 : (if x5 + 4 ≤ e then x5 + 4 else x5) = x6 at r6 hsearch
  have b6 : x6 ≤ 252 := by split_ifs at hx6 <;> omega
  have r7 := st x6 2 (by omega) (by omega)
  generalize hx7 : (if x6 + 2 ≤ e then x6 + 2 else x6) = x7 at r7 hsearch
  have b7 : x7 ≤ 254 := by split_ifs at hx7 <;> omega
  have r8 := st x7 1 (by omega) (by omega)
  rw [hsearch] at r8
  unfold field
  have c0 : (0#32 : BitVec 32) = BitVec.ofNat 32 (0 * 8388608) := rfl
  have c1 : (1073741824#32 : BitVec 32) = BitVec.ofNat 32 (128 * 8388608) := rfl
  have c2 : (536870912#32 : BitVec 32) = BitVec.ofNat 32 (64 * 8388608) := rfl
  have c3 : (268435456#32 : BitVec 32) = BitVec.ofNat 32 (32 * 8388608) := rfl
  have c4 : (134217728#32 : BitVec 32) = BitVec.ofNat 32 (16 * 8388608) := rfl
  have c5 : (67108864#32 : BitVec 32) = BitVec.ofNat 32 (8 * 8388608) := rfl
  have c6 : (33554432#32 : BitVec 32) = BitVec.ofNat 32 (4 * 8388608) := rfl
  have c7 : (16777216#32 : BitVec 32) = BitVec.ofNat 32 (2 * 8388608) := rfl
  have c8 : (8388608#32 : BitVec 32) = BitVec.ofNat 32 (1 * 8388608) := rfl
  rw [c0, c1, c2, c3, c4, c5, c6, c7, c8, r1, r2, r3, r4, r5, r6, r7, r8]

/-- A number is in the range the two scales agree on: zero, or normal and below the largest binade. -/
def Normal (s : EReal) : Prop :=
  s = 0 ∨ ((((2 : ℝ) ^ (-126 : ℤ) : ℝ) : EReal) ≤ s ∧ s < (((2 : ℝ) ^ (126 : ℤ) : ℝ) : EReal))

/-- Both scales in that range: a power of two, with its reciprocal; what the reference raises two to is its exponent. -/
theorem scale_spec {s : EReal} (h : Normal s) : ∃ k : ℤ, kscale s = (((2 : ℝ) ^ k : ℝ) : EReal)
    ∧ kinv s = (((2 : ℝ) ^ (-k) : ℝ) : EReal) ∧ rexp s = (((k : ℤ) : ℝ) : EReal) := by
  rcases h with h | ⟨h1, h2⟩
  · refine ⟨0, ?_, ?_, ?_⟩ <;> simp [kscale, kinv, rexp, h]
  · have hb : s ≠ ⊥ := fun e => by rw [e] at h1; simp at h1
    have ht : s ≠ ⊤ := fun e => by rw [e] at h2; simp at h2
    lift s to ℝ using ⟨ht, hb⟩
    rw [EReal.coe_le_coe_iff] at h1
    rw [EReal.coe_lt_coe_iff] at h2
    have hpos : 0 < s := lt_of_lt_of_le (by positivity) h1
    have hs0 : (s : EReal) ≠ 0 := by
      rw [ne_eq, EReal.coe_eq_zero]; exact hpos.ne'
    obtain ⟨k, hk1, hk2⟩ : ∃ k : ℤ, (2 : ℝ) ^ k ≤ s ∧ s < (2 : ℝ) ^ (k + 1) := exists_mem_Ico_zpow hpos (by norm_num)
    have hk126 : -126 ≤ k := by
      by_contra hc
      have : (2 : ℝ) ^ (k + 1) ≤ (2 : ℝ) ^ (-126 : ℤ) := zpow_le_zpow_right₀ (by norm_num) (by omega)
      linarith
    have hk125 : k ≤ 125 := by
      by_contra hc
      have : (2 : ℝ) ^ (126 : ℤ) ≤ (2 : ℝ) ^ k := zpow_le_zpow_right₀ (by norm_num) (by omega)
      linarith
    obtain ⟨e, he⟩ : ∃ e : ℕ, (e : ℤ) = k + 127 := ⟨(k + 127).toNat, by omega⟩
    have hf := field_eq (s := s) (e := e) (by omega)
      (by rw [show (e : ℤ) - 127 = k by omega]; exact hk1) (by rw [show (e : ℤ) - 126 = k + 1 by omega]; exact hk2)
    refine ⟨k + 1, ?_, ?_, ?_⟩
    · unfold kscale
      rw [if_neg hs0, hf, show IntOp.addi (BitVec.ofNat 32 (e * 8388608)) 8388608#32 = BitVec.ofNat 32 ((e + 1) * 8388608) from by
        show BitVec.ofNat 32 (e * 8388608) + BitVec.ofNat 32 8388608 = _
        rw [← BitVec.ofNat_add, Nat.add_mul, one_mul], ofBits_pow _ (by omega) (by omega)]
      congr 2; push_cast; omega
    · unfold kinv
      rw [if_neg hs0, hf, show IntOp.subi 2122317824#32 (BitVec.ofNat 32 (e * 8388608)) = BitVec.ofNat 32 ((253 - e) * 8388608) from by
        have key : ∀ e : Fin 254, (2122317824#32 : BitVec 32) - BitVec.ofNat 32 (e.val * 8388608)
            = BitVec.ofNat 32 ((253 - e.val) * 8388608) := by decide +kernel
        exact key ⟨e, by omega⟩, ofBits_pow _ (by omega) (by omega)]
      congr 2; omega
    · unfold rexp
      rw [if_neg hs0, Ideal.log_coe, if_neg (not_le.2 hpos), ← EReal.coe_mul, Ideal.liftRound_coe]
      have hl2 : 0 < Real.log 2 := Real.log_pos (by norm_num)
      have : ⌊Real.log s * (Real.log 2)⁻¹⌋ = k := by
        rw [Int.floor_eq_iff, ← div_eq_mul_inv, le_div_iff₀ hl2, div_lt_iff₀ hl2, ← Real.log_zpow]
        refine ⟨Real.log_le_log (by positivity) hk1, ?_⟩
        have : ((k : ℝ) + 1) = ((k + 1 : ℤ) : ℝ) := by push_cast; rfl
        rw [this, ← Real.log_zpow]
        exact Real.log_lt_log hpos hk2
      rw [this]; push_cast; rfl

/-- The reference's scale is the kernel's. -/
theorem exp2_rexp {s : EReal} (h : Normal s) : Ideal.exp2 (rexp s) = kscale s := by
  obtain ⟨k, h1, _, h3⟩ := scale_spec h
  rw [h1, h3, Ideal.exp2_coe]
  congr 1
  exact Real.rpow_intCast 2 k

/-- The reference's reciprocal scale is the kernel's. -/
theorem exp2_neg_rexp {s : EReal} (h : Normal s) : Ideal.exp2 (0 - rexp s) = kinv s := by
  obtain ⟨k, _, h2, h3⟩ := scale_spec h
  rw [h2, h3, zero_sub, ← EReal.coe_neg, Ideal.exp2_coe]
  congr 1
  have := Real.rpow_intCast 2 (-k)
  push_cast at this
  exact this

end Cert.Proof.Spec

end
-- ==== Proof.Spec.lean ====
/-
  What the two programs compute, written on plain functions: a row's window of three taps, its largest magnitude, its
  codes, and the product's GELU; with the equations that put the kernel's way of writing each beside the reference's.
-/
module

public import proofs.«01_k».proof.Proof.Scale

@[expose] public section

noncomputable section

namespace Cert.Proof.Spec

open Idealize.ShloMosaic

/-- The largest magnitude of a row. -/
def rowMax {n : Nat} (f : Fin n → EReal) : EReal := Finset.univ.sup fun j => max (f j) (-(f j))

/-- The row's scaled maximum, by the reciprocal of the largest code. -/
def scaled (a : EReal) : EReal := a * Ideal.ofBits .f32 991054117#32

/-- A code: the value by the reciprocal scale, clipped. -/
def code (v inv : EReal) : EReal :=
  min (Ideal.ofBits .f32 1138753536#32) (max (Ideal.ofBits .f32 3286237184#32) (v * inv))

/-- The square root of one half. -/
def sqh : EReal := (((Real.sqrt 2)⁻¹ : ℝ) : EReal)

/-- The kernel's result from an accumulated product, its row's scale, its column's scale and bias. -/
def kgelu (acc sc ws b : EReal) : EReal :=
  (acc * sc * (ws * sqh) + b * sqh) * sqh
    + (acc * sc * (ws * sqh) + b * sqh) * sqh * Ideal.erf (acc * sc * (ws * sqh) + b * sqh)

/-- The reference's. -/
def rgelu (acc sc ws b : EReal) : EReal :=
  Ideal.ofBits .f32 1056964608#32 * (acc * sc * ws + b + (acc * sc * ws + b) * Ideal.erf ((acc * sc * ws + b) * sqh))

theorem half : Ideal.ofBits .f32 1056964608#32 = ((1 / 2 : ℝ) : EReal) := by
  simp [Ideal.ofBits, Ideal.ieee, -EReal.coe_mul]; norm_num

theorem sqh_sq : sqh * sqh = ((1 / 2 : ℝ) : EReal) := by
  unfold sqh
  rw [← EReal.coe_mul, ← mul_inv, Real.mul_self_sqrt (by norm_num)]
  norm_num

theorem kgelu_eq (acc sc ws b : EReal) : kgelu acc sc ws b = rgelu acc sc ws b := by
  have h0 : (0 : EReal) ≤ sqh := by unfold sqh; exact_mod_cast (by positivity : (0 : ℝ) ≤ (Real.sqrt 2)⁻¹)
  have ht : sqh ≠ ⊤ := EReal.coe_ne_top _
  have hz : acc * sc * (ws * sqh) + b * sqh = (acc * sc * ws + b) * sqh := by
    rw [mul_comm (acc * sc * ws + b) sqh, EReal.left_distrib_of_nonneg_of_ne_top h0 ht, mul_comm sqh, mul_comm sqh, ← mul_assoc (acc * sc) ws sqh]
  unfold kgelu rgelu
  rw [hz]
  generalize acc * sc * ws + b = z
  rw [mul_assoc z sqh sqh, sqh_sq, half, EReal.left_distrib_of_nonneg_of_ne_top (by exact_mod_cast (by norm_num : (0 : ℝ) ≤ 1 / 2)) (EReal.coe_ne_top _),
    mul_comm z _, mul_assoc]

/-- The maximum of one lane over ten runs of 128 columns. -/
def chunkMax (g : Fin 1280 → EReal) (l : Fin 128) : EReal :=
  max (max (max (max (max (max (max (max (max (g ⟨0 + l.val, by omega⟩) (g ⟨128 + l.val, by omega⟩)) (g ⟨256 + l.val, by omega⟩))
        (g ⟨384 + l.val, by omega⟩)) (g ⟨512 + l.val, by omega⟩)) (g ⟨640 + l.val, by omega⟩)) (g ⟨768 + l.val, by omega⟩))
        (g ⟨896 + l.val, by omega⟩)) (g ⟨1024 + l.val, by omega⟩)) (g ⟨1152 + l.val, by omega⟩)

/-- The maximum over ten runs of 128 columns is the maximum over the 1280. -/
theorem rowMax_chunks (g : Fin 1280 → EReal) :
    (Finset.univ.sup fun l : Fin 128 => chunkMax g l) = Finset.univ.sup g := by
  apply le_antisymm
  · refine Finset.sup_le fun l _ => ?_
    simp only [chunkMax, max_le_iff]
    refine ⟨⟨⟨⟨⟨⟨⟨⟨⟨?_, ?_⟩, ?_⟩, ?_⟩, ?_⟩, ?_⟩, ?_⟩, ?_⟩, ?_⟩, ?_⟩ <;> exact Finset.le_sup (f := g) (Finset.mem_univ _)
  · refine Finset.sup_le fun j _ => ?_
    refine le_trans ?_ (Finset.le_sup (Finset.mem_univ (⟨j.val % 128, by omega⟩ : Fin 128)))
    have hj : j.val = 128 * (j.val / 128) + j.val % 128 := by omega
    have hlt : j.val / 128 < 10 := by omega
    simp only [chunkMax, le_max_iff]
    generalize hq : j.val / 128 = q at hj hlt
    have e : ∀ n (hn : n < 1280), n = j.val → g j ≤ g ⟨n, hn⟩ := fun n hn h => by subst h; exact le_rfl
    interval_cases q
    · exact Or.inl (Or.inl (Or.inl (Or.inl (Or.inl (Or.inl (Or.inl (Or.inl (Or.inl (e _ _ (by omega))))))))))
    · exact Or.inl (Or.inl (Or.inl (Or.inl (Or.inl (Or.inl (Or.inl (Or.inl (Or.inr (e _ _ (by omega))))))))))
    · exact Or.inl (Or.inl (Or.inl (Or.inl (Or.inl (Or.inl (Or.inl (Or.inr (e _ _ (by omega)))))))))
    · exact Or.inl (Or.inl (Or.inl (Or.inl (Or.inl (Or.inl (Or.inr (e _ _ (by omega))))))))
    · exact Or.inl (Or.inl (Or.inl (Or.inl (Or.inl (Or.inr (e _ _ (by omega)))))))
    · exact Or.inl (Or.inl (Or.inl (Or.inl (Or.inr (e _ _ (by omega))))))
    · exact Or.inl (Or.inl (Or.inl (Or.inr (e _ _ (by omega)))))
    · exact Or.inl (Or.inl (Or.inr (e _ _ (by omega))))
    · exact Or.inl (Or.inr (e _ _ (by omega)))
    · exact Or.inr (e _ _ (by omega))

/-- A row of windows from a block of rows and the row before the block: the odd row before, the even row, the odd row. -/
def lwin (X : Fin 1024 → Fin 1280 → EReal) (P : Fin 1280 → EReal) (r : Fin 512) (j : Fin 3840) : EReal :=
  if h : j.val < 1280 then (if hr : r.val = 0 then P ⟨j.val, h⟩ else X ⟨2 * r.val - 1, by omega⟩ ⟨j.val, h⟩)
  else if h2 : j.val < 2560 then X ⟨2 * r.val, by omega⟩ ⟨j.val - 1280, by omega⟩
  else X ⟨2 * r.val + 1, by omega⟩ ⟨j.val - 2560, by omega⟩

/-- The row before block row `2r`. -/
def prevRow (X : Fin 1024 → Fin 1280 → EReal) (P : Fin 1280 → EReal) (r : Fin 512) (k : Fin 1280) : EReal :=
  if hr : r.val = 0 then P k else X ⟨2 * r.val - 1, by omega⟩ k

/-- The three parts of a window row. -/
theorem lwin_prev (X : Fin 1024 → Fin 1280 → EReal) (P : Fin 1280 → EReal) (r : Fin 512) (k : Fin 1280) :
    lwin X P r ⟨k.val, by omega⟩ = prevRow X P r k := by
  unfold lwin prevRow; rw [dif_pos k.isLt]
theorem lwin_even (X : Fin 1024 → Fin 1280 → EReal) (P : Fin 1280 → EReal) (r : Fin 512) (k : Fin 1280) :
    lwin X P r ⟨1280 + k.val, by omega⟩ = X ⟨2 * r.val, by omega⟩ k := by
  unfold lwin; rw [dif_neg (by show ¬ (1280 + k.val < 1280); omega), dif_pos (by show 1280 + k.val < 2560; omega)]
  exact congrArg (X _) (Fin.ext (Nat.add_sub_cancel_left ..))
theorem lwin_odd (X : Fin 1024 → Fin 1280 → EReal) (P : Fin 1280 → EReal) (r : Fin 512) (k : Fin 1280) :
    lwin X P r ⟨2560 + k.val, by omega⟩ = X ⟨2 * r.val + 1, by omega⟩ k := by
  unfold lwin; rw [dif_neg (by show ¬ (2560 + k.val < 1280); omega), dif_neg (by show ¬ (2560 + k.val < 2560); omega)]
  exact congrArg (X _) (Fin.ext (Nat.add_sub_cancel_left ..))

/-- A window row's largest magnitude is the largest of its three parts'. -/
theorem rowMax_lwin (X : Fin 1024 → Fin 1280 → EReal) (P : Fin 1280 → EReal) (r : Fin 512) :
    rowMax (lwin X P r) = max (max (rowMax (X ⟨2 * r.val + 1, by omega⟩)) (rowMax (prevRow X P r))) (rowMax (X ⟨2 * r.val, by omega⟩)) := by
  have le : ∀ {n m : Nat} (f : Fin n → EReal) (g : Fin m → EReal) (e : Fin n → Fin m), (∀ k, f k = g (e k)) → rowMax f ≤ rowMax g :=
    fun f g e h => Finset.sup_le fun k _ => by
      rw [h k]; exact Finset.le_sup (f := fun j => max (g j) (-(g j))) (Finset.mem_univ (e k))
  apply le_antisymm
  · refine Finset.sup_le fun j _ => ?_
    rcases Nat.lt_or_ge j.val 1280 with h | h
    · have := lwin_prev X P r ⟨j.val, h⟩
      rw [show (⟨(⟨j.val, h⟩ : Fin 1280).val, by omega⟩ : Fin 3840) = j from rfl] at this
      rw [this]
      exact le_trans (Finset.le_sup (f := fun k => max (prevRow X P r k) (-(prevRow X P r k))) (Finset.mem_univ _))
        (le_trans (le_max_right _ _) (le_max_left _ _))
    rcases Nat.lt_or_ge j.val 2560 with h2 | h2
    · have := lwin_even X P r ⟨j.val - 1280, by omega⟩
      rw [show (⟨1280 + (⟨j.val - 1280, by omega⟩ : Fin 1280).val, by omega⟩ : Fin 3840) = j from Fin.ext (by show 1280 + (j.val - 1280) = j.val; omega)] at this
      rw [this]
      exact le_trans (Finset.le_sup (f := fun k => max (X ⟨2 * r.val, by omega⟩ k) (-(X ⟨2 * r.val, by omega⟩ k))) (Finset.mem_univ _))
        (le_max_right _ _)
    · have := lwin_odd X P r ⟨j.val - 2560, by omega⟩
      rw [show (⟨2560 + (⟨j.val - 2560, by omega⟩ : Fin 1280).val, by omega⟩ : Fin 3840) = j from Fin.ext (by show 2560 + (j.val - 2560) = j.val; omega)] at this
      rw [this]
      exact le_trans (Finset.le_sup (f := fun k => max (X ⟨2 * r.val + 1, by omega⟩ k) (-(X ⟨2 * r.val + 1, by omega⟩ k))) (Finset.mem_univ _))
        (le_trans (le_max_left _ _) (le_max_left _ _))
  · refine max_le (max_le ?_ ?_) ?_
    · exact le _ _ (fun k => ⟨2560 + k.val, by omega⟩) fun k => (lwin_odd X P r k).symm
    · exact le _ _ (fun k => ⟨k.val, by omega⟩) fun k => (lwin_prev X P r k).symm
    · exact le _ _ (fun k => ⟨1280 + k.val, by omega⟩) fun k => (lwin_even X P r k).symm

/-- The windows of the whole input. -/
def win (X : Fin 2 → Fin 16384 → Fin 1280 → EReal) (b : Fin 2) (r : Fin 8192) (j : Fin 3840) : EReal :=
  if h : j.val < 1280 then (if hr : r.val = 0 then 0 else X b ⟨2 * r.val - 1, by omega⟩ ⟨j.val, h⟩)
  else if h2 : j.val < 2560 then X b ⟨2 * r.val, by omega⟩ ⟨j.val - 1280, by omega⟩
  else X b ⟨2 * r.val + 1, by omega⟩ ⟨j.val - 2560, by omega⟩

/-- The block of 1024 rows at tile `t`, -/
def tile (X : Fin 2 → Fin 16384 → Fin 1280 → EReal) (b : Fin 2) (t : Fin 16) (a : Fin 1024) (k : Fin 1280) : EReal :=
  X b ⟨1024 * t.val + a.val, by omega⟩ k
/-- and the row before it: zeros before the first. -/
def before (X : Fin 2 → Fin 16384 → Fin 1280 → EReal) (b : Fin 2) (t : Fin 16) (k : Fin 1280) : EReal :=
  if ht : t.val = 0 then 0 else X b ⟨1024 * t.val - 1, by omega⟩ k

/-- A tile's windows are the input's. -/
theorem lwin_tile (X : Fin 2 → Fin 16384 → Fin 1280 → EReal) (b : Fin 2) (t : Fin 16) (r : Fin 512) :
    lwin (tile X b t) (before X b t) r = win X b ⟨512 * t.val + r.val, by omega⟩ := by
  funext j
  unfold lwin win tile before
  have e : ∀ (n m : Nat) (hn : n < 16384) (hm : m < 16384) (k : Fin 1280), n = m → X b ⟨n, hn⟩ k = X b ⟨m, hm⟩ k :=
    fun n m hn hm k h => by subst h; rfl
  by_cases h : j.val < 1280
  · rw [dif_pos h, dif_pos h]
    by_cases hr : r.val = 0
    · rw [dif_pos hr]
      by_cases ht : t.val = 0
      · rw [dif_pos ht, dif_pos (by show 512 * t.val + r.val = 0; omega)]
      · rw [dif_neg ht, dif_neg (by show ¬ (512 * t.val + r.val = 0); omega)]
        exact e _ _ _ _ _ (by show 1024 * t.val - 1 = 2 * (512 * t.val + r.val) - 1; omega)
    · rw [dif_neg hr, dif_neg (by show ¬ (512 * t.val + r.val = 0); omega)]
      exact e _ _ _ _ _ (by show 1024 * t.val + (2 * r.val - 1) = 2 * (512 * t.val + r.val) - 1; omega)
  · rw [dif_neg h, dif_neg h]
    by_cases h2 : j.val < 2560
    · rw [dif_pos h2, dif_pos h2]
      exact e _ _ _ _ _ (by show 1024 * t.val + 2 * r.val = 2 * (512 * t.val + r.val); omega)
    · rw [dif_neg h2, dif_neg h2]
      exact e _ _ _ _ _ (by show 1024 * t.val + (2 * r.val + 1) = 2 * (512 * t.val + r.val) + 1; omega)

/-- Zeros have no magnitude. -/
theorem rowMax_zero {n : Nat} (h : 0 < n) : rowMax (fun _ : Fin n => (0 : EReal)) = 0 := by
  unfold rowMax
  haveI : Nonempty (Fin n) := ⟨⟨0, h⟩⟩
  simp [Finset.sup_const Finset.univ_nonempty]

/-- A row's scale, reciprocal scale and codes, of the whole input. -/
def smax (X : Fin 2 → Fin 16384 → Fin 1280 → EReal) (b : Fin 2) (r : Fin 8192) : EReal := scaled (rowMax (win X b r))
def gscale (X : Fin 2 → Fin 16384 → Fin 1280 → EReal) (b : Fin 2) (r : Fin 8192) : EReal := kscale (smax X b r)
def gcode (X : Fin 2 → Fin 16384 → Fin 1280 → EReal) (b : Fin 2) (r : Fin 8192) (j : Fin 3840) : EReal :=
  code (win X b r j) (kinv (smax X b r))
/-- The result of the product's GELU. -/
def gout (X : Fin 2 → Fin 16384 → Fin 1280 → EReal) (W : Fin 3840 → Fin 2048 → EReal) (ws bias : Fin 2048 → EReal)
    (b : Fin 2) (r : Fin 8192) (n : Fin 2048) : EReal :=
  kgelu (∑ j, gcode X b r j * W j n) (gscale X b r) (ws n) (bias n)

end Cert.Proof.Spec

end
-- ==== Proof.IRows.lean ====
/-
  One grid point of the kernel's ideal form: the rows' largest magnitudes, and each row's scale and reciprocal scale, as
  functions of the block of rows the point reads and of the row before the block.
-/
module

public import proofs.«01_k».proof.Proof.IRun
public import proofs.«01_k».proof.Proof.Spec
public import Idealize.ShloMosaic.Lib.Pipeline.ValueKit
public import Idealize.ShloMosaic.Lib.Pointwise

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords) (M0 : Memref sig .tc .vmem S1x1024x1280 .bf16) (f0 : Bf (F := Ideal) c M0)
  (fs : Bf (F := Ideal) c (Memref.whole cc0_scratch0)) (ft : Bf (F := Ideal) c (Memref.whole cc0_scratch1))

/-- The block of rows the point reads. -/
def xb (a : Fin 1024) (k : Fin 1280) : EReal := M0.view.read (Elt Ideal) f0 (ix3 0 a k)

/-- Chunk 0 of the block's columns. -/
theorem v34_at (a : Fin 1024) (l : Fin 128) : run.sl.v34 c M0 f0 (ix2 a l) = xb c M0 f0 a ⟨0 + l.val, by omega⟩ := by
  unfold run.sl.v34 xb
  simp only [View.readAt_eq_ld]
  pointwise
/-- Chunk 1 of the block's columns. -/
theorem v37_at (a : Fin 1024) (l : Fin 128) : run.sl.v37 c M0 f0 (ix2 a l) = xb c M0 f0 a ⟨128 + l.val, by omega⟩ := by
  unfold run.sl.v37 xb
  simp only [View.readAt_eq_ld]
  pointwise
/-- Chunk 2 of the block's columns. -/
theorem v41_at (a : Fin 1024) (l : Fin 128) : run.sl.v41 c M0 f0 (ix2 a l) = xb c M0 f0 a ⟨256 + l.val, by omega⟩ := by
  unfold run.sl.v41 xb
  simp only [View.readAt_eq_ld]
  pointwise
/-- Chunk 3 of the block's columns. -/
theorem v45_at (a : Fin 1024) (l : Fin 128) : run.sl.v45 c M0 f0 (ix2 a l) = xb c M0 f0 a ⟨384 + l.val, by omega⟩ := by
  unfold run.sl.v45 xb
  simp only [View.readAt_eq_ld]
  pointwise
/-- Chunk 4 of the block's columns. -/
theorem v49_at (a : Fin 1024) (l : Fin 128) : run.sl.v49 c M0 f0 (ix2 a l) = xb c M0 f0 a ⟨512 + l.val, by omega⟩ := by
  unfold run.sl.v49 xb
  simp only [View.readAt_eq_ld]
  pointwise
/-- Chunk 5 of the block's columns. -/
theorem v53_at (a : Fin 1024) (l : Fin 128) : run.sl.v53 c M0 f0 (ix2 a l) = xb c M0 f0 a ⟨640 + l.val, by omega⟩ := by
  unfold run.sl.v53 xb
  simp only [View.readAt_eq_ld]
  pointwise
/-- Chunk 6 of the block's columns. -/
theorem v57_at (a : Fin 1024) (l : Fin 128) : run.sl.v57 c M0 f0 (ix2 a l) = xb c M0 f0 a ⟨768 + l.val, by omega⟩ := by
  unfold run.sl.v57 xb
  simp only [View.readAt_eq_ld]
  pointwise
/-- Chunk 7 of the block's columns. -/
theorem v61_at (a : Fin 1024) (l : Fin 128) : run.sl.v61 c M0 f0 (ix2 a l) = xb c M0 f0 a ⟨896 + l.val, by omega⟩ := by
  unfold run.sl.v61 xb
  simp only [View.readAt_eq_ld]
  pointwise
/-- Chunk 8 of the block's columns. -/
theorem v65_at (a : Fin 1024) (l : Fin 128) : run.sl.v65 c M0 f0 (ix2 a l) = xb c M0 f0 a ⟨1024 + l.val, by omega⟩ := by
  unfold run.sl.v65 xb
  simp only [View.readAt_eq_ld]
  pointwise
/-- Chunk 9 of the block's columns. -/
theorem v69_at (a : Fin 1024) (l : Fin 128) : run.sl.v69 c M0 f0 (ix2 a l) = xb c M0 f0 a ⟨1152 + l.val, by omega⟩ := by
  unfold run.sl.v69 xb
  simp only [View.readAt_eq_ld]
  pointwise

/-- The largest magnitude over the ten chunks, lane by lane. -/
theorem v71_at (a : Fin 1024) (l : Fin 128) : run.sl.v71 c M0 f0 (ix2 a l) =
    chunkMax (fun k => max (xb c M0 f0 a k) (-(xb c M0 f0 a k))) l := by
  have h : run.sl.v71 c M0 f0 (ix2 a l) = (max (max (max (max (max (max (max (max (max (max (run.sl.v34 c M0 f0 (ix2 a l)) (-(run.sl.v34 c M0 f0 (ix2 a l)))) (max (run.sl.v37 c M0 f0 (ix2 a l)) (-(run.sl.v37 c M0 f0 (ix2 a l))))) (max (run.sl.v41 c M0 f0 (ix2 a l)) (-(run.sl.v41 c M0 f0 (ix2 a l))))) (max (run.sl.v45 c M0 f0 (ix2 a l)) (-(run.sl.v45 c M0 f0 (ix2 a l))))) (max (run.sl.v49 c M0 f0 (ix2 a l)) (-(run.sl.v49 c M0 f0 (ix2 a l))))) (max (run.sl.v53 c M0 f0 (ix2 a l)) (-(run.sl.v53 c M0 f0 (ix2 a l))))) (max (run.sl.v57 c M0 f0 (ix2 a l)) (-(run.sl.v57 c M0 f0 (ix2 a l))))) (max (run.sl.v61 c M0 f0 (ix2 a l)) (-(run.sl.v61 c M0 f0 (ix2 a l))))) (max (run.sl.v65 c M0 f0 (ix2 a l)) (-(run.sl.v65 c M0 f0 (ix2 a l))))) (max (run.sl.v69 c M0 f0 (ix2 a l)) (-(run.sl.v69 c M0 f0 (ix2 a l))))) := by
    unfold run.sl.v71 run.sl.v70 run.sl.v67 run.sl.v66 run.sl.v63 run.sl.v62 run.sl.v59 run.sl.v58 run.sl.v55 run.sl.v54 run.sl.v51 run.sl.v50 run.sl.v47 run.sl.v46 run.sl.v43 run.sl.v42 run.sl.v39 run.sl.v38 run.sl.v35
    rfl
  rw [h, v34_at, v37_at, v41_at, v45_at, v49_at, v53_at, v57_at, v61_at, v65_at, v69_at]
  rfl

theorem fold_max_bot {n : Nat} (f : Fin n → EReal) :
    Finset.fold max (Ideal.ofBits .f32 4286578688#32) f Finset.univ = Finset.univ.sup f := by
  rw [show Ideal.ofBits .f32 4286578688#32 = ⊥ by simp [Ideal.ofBits, Ideal.ieee]]; rfl

/-- The even rows' largest magnitudes, -/
theorem v76_at (r : Fin 512) : run.sl.v76 c M0 f0 (ix1 r) = rowMax (xb c M0 f0 ⟨2 * r.val, by omega⟩) := by
  have h : run.sl.v76 c M0 f0 (ix1 r) = Finset.fold max (Ideal.ofBits .f32 4286578688#32)
      (fun x : Fin 128 => run.sl.v71 c M0 f0 (ix2 ⟨2 * r.val, by omega⟩ x)) Finset.univ := by
    pointwise [run.sl.v76, run.sl.v75, run.sl.v72_lo]
  rw [h, fold_max_bot]
  simp only [v71_at]
  exact rowMax_chunks (fun k => max (xb c M0 f0 _ k) (-(xb c M0 f0 _ k)))
/-- and the odd rows'. -/
theorem v81_at (r : Fin 512) : run.sl.v81 c M0 f0 (ix1 r) = rowMax (xb c M0 f0 ⟨2 * r.val + 1, by omega⟩) := by
  have h : run.sl.v81 c M0 f0 (ix1 r) = Finset.fold max (Ideal.ofBits .f32 4286578688#32)
      (fun x : Fin 128 => run.sl.v71 c M0 f0 (ix2 ⟨2 * r.val + 1, by omega⟩ x)) Finset.univ := by
    pointwise [run.sl.v81, run.sl.v80, run.sl.v72_hi]
  rw [h, fold_max_bot]
  simp only [v71_at]
  exact rowMax_chunks (fun k => max (xb c M0 f0 _ k) (-(xb c M0 f0 _ k)))

/-- The largest magnitude of each window row, with the row before the block in its scratch. -/
theorem v91_at (P : Fin 1280 → EReal) (hQ : ∀ l : Fin 128, run.sl.v85 c i ft (ix2 7 l) = rowMax P) (r : Fin 512) (l : Fin 128) :
    run.sl.v91 c i M0 f0 ft (ix2 r l) = rowMax (lwin (xb c M0 f0) P r) := by
  have h : run.sl.v91 c i M0 f0 ft (ix2 r l) = max (max (run.sl.v81 c M0 f0 (ix1 r))
      (if h : (8 + r.val + 520 - 1) % 520 < 8 then run.sl.v85 c i ft (ix2 ⟨(8 + r.val + 520 - 1) % 520, h⟩ l)
        else run.sl.v81 c M0 f0 (ix1 ⟨(8 + r.val + 520 - 1) % 520 - 8, by omega⟩))) (run.sl.v76 c M0 f0 (ix1 r)) := by
    pointwise [run.sl.v91, run.sl.v90, run.sl.v89, run.sl.v77, run.sl.v82, run.sl.v83, run.sl.v84, run.sl.v86, run.sl.v87, run.sl.v88]
  rw [h, rowMax_lwin, v81_at, v76_at]
  refine congrArg (fun z => max (max _ z) _) ?_
  by_cases hr : r.val = 0
  · rw [dif_pos (by omega), show (⟨(8 + r.val + 520 - 1) % 520, by omega⟩ : Fin 8) = 7 from Fin.ext (by show (8 + r.val + 520 - 1) % 520 = 7; omega), hQ]
    exact congrArg rowMax (funext fun k => by unfold prevRow; rw [dif_pos hr])
  · rw [dif_neg (by omega), v81_at]
    refine congrArg rowMax (funext fun k => ?_)
    unfold prevRow; rw [dif_neg hr]
    exact congrArg (fun a => xb c M0 f0 a k) (Fin.ext (by show 2 * ((8 + r.val + 520 - 1) % 520 - 8) + 1 = 2 * r.val - 1; omega))

/-- One step of the search, on vectors. -/
theorem sel_step (s : FVec Ideal S512x128 .f32) (g n : IVec S512x128 32) (x : S512x128.Idx) :
    select (cmpf .oge s (bitcastToFloat .f32 (addi g n))) (addi g n) g x = fieldStep (s x) (g x) (n x) := by
  unfold fieldStep
  pointwise

theorem v103_at (x : S512x128.Idx) : run.sl.v103 c i M0 f0 ft x
    = fieldStep (run.sl.v97 c i M0 f0 ft x) 0#32 1073741824#32 := by
  unfold run.sl.v103 run.sl.v102 run.sl.v101
  refine (sel_step (run.sl.v97 c i M0 f0 ft) run.sl.v98 run.sl.v99 x).trans ?_
  rfl
theorem v108_at (x : S512x128.Idx) : run.sl.v108 c i M0 f0 ft x
    = fieldStep (run.sl.v97 c i M0 f0 ft x) (fieldStep (run.sl.v97 c i M0 f0 ft x) 0#32 1073741824#32) 536870912#32 := by
  unfold run.sl.v108 run.sl.v107 run.sl.v106 run.sl.v105
  refine (sel_step (run.sl.v97 c i M0 f0 ft) (run.sl.v103 c i M0 f0 ft) run.sl.v104 x).trans ?_
  rw [v103_at]
  rfl
theorem v113_at (x : S512x128.Idx) : run.sl.v113 c i M0 f0 ft x
    = fieldStep (run.sl.v97 c i M0 f0 ft x) (fieldStep (run.sl.v97 c i M0 f0 ft x) (fieldStep (run.sl.v97 c i M0 f0 ft x) 0#32 1073741824#32) 536870912#32) 268435456#32 := by
  unfold run.sl.v113 run.sl.v112 run.sl.v111 run.sl.v110
  refine (sel_step (run.sl.v97 c i M0 f0 ft) (run.sl.v108 c i M0 f0 ft) run.sl.v109 x).trans ?_
  rw [v108_at]
  rfl
theorem v118_at (x : S512x128.Idx) : run.sl.v118 c i M0 f0 ft x
    = fieldStep (run.sl.v97 c i M0 f0 ft x) (fieldStep (run.sl.v97 c i M0 f0 ft x) (fieldStep (run.sl.v97 c i M0 f0 ft x) (fieldStep (run.sl.v97 c i M0 f0 ft x) 0#32 1073741824#32) 536870912#32) 268435456#32) 134217728#32 := by
  unfold run.sl.v118 run.sl.v117 run.sl.v116 run.sl.v115
  refine (sel_step (run.sl.v97 c i M0 f0 ft) (run.sl.v113 c i M0 f0 ft) run.sl.v114 x).trans ?_
  rw [v113_at]
  rfl
theorem v123_at (x : S512x128.Idx) : run.sl.v123 c i M0 f0 ft x
    = fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) 0#32 1073741824#32) 536870912#32) 268435456#32) 134217728#32) 67108864#32 := by
  unfold run.sl.v123 run.sl.v122 run.sl.v121 run.sl.v120
  refine (sel_step (run.sl.v97 c i M0 f0 ft) (run.sl.v118 c i M0 f0 ft) run.sl.v119 x).trans ?_
  rw [v118_at]
  rfl
theorem v128_at (x : S512x128.Idx) : run.sl.v128 c i M0 f0 ft x
    = fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) 0#32 1073741824#32) 536870912#32) 268435456#32) 134217728#32) 67108864#32) 33554432#32 := by
  unfold run.sl.v128 run.sl.v127 run.sl.v126 run.sl.v125
  refine (sel_step (run.sl.v97 c i M0 f0 ft) (run.sl.v123 c i M0 f0 ft) run.sl.v124 x).trans ?_
  rw [v123_at]
  rfl
theorem v133_at (x : S512x128.Idx) : run.sl.v133 c i M0 f0 ft x
    = fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) 0#32 1073741824#32) 536870912#32) 268435456#32) 134217728#32) 67108864#32) 33554432#32) 16777216#32 := by
  unfold run.sl.v133 run.sl.v132 run.sl.v131 run.sl.v130
  refine (sel_step (run.sl.v97 c i M0 f0 ft) (run.sl.v128 c i M0 f0 ft) run.sl.v129 x).trans ?_
  rw [v128_at]
  rfl
theorem v138_at (x : S512x128.Idx) : run.sl.v138 c i M0 f0 ft x
    = fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) (fieldStep (run.sl.v97 c i M0 f0 ft x) 0#32 1073741824#32) 536870912#32) 268435456#32) 134217728#32) 67108864#32) 33554432#32) 16777216#32) 8388608#32 := by
  unfold run.sl.v138 run.sl.v137 run.sl.v136 run.sl.v135
  refine (sel_step (run.sl.v97 c i M0 f0 ft) (run.sl.v133 c i M0 f0 ft) run.sl.v134 x).trans ?_
  rw [v133_at]
  rfl

/-- The exponent field of each window row's scaled maximum. -/
theorem field_at (x : S512x128.Idx) : run.sl.v138 c i M0 f0 ft x = field (run.sl.v97 c i M0 f0 ft x) := by
  rw [v138_at]; rfl

/-- The scaled maximum. -/
theorem v97_at (P : Fin 1280 → EReal) (hQ : ∀ l : Fin 128, run.sl.v85 c i ft (ix2 7 l) = rowMax P) (r : Fin 512) (l : Fin 128) :
    run.sl.v97 c i M0 f0 ft (ix2 r l) = scaled (rowMax (lwin (xb c M0 f0) P r)) := by
  have h : run.sl.v97 c i M0 f0 ft (ix2 r l) = run.sl.v91 c i M0 f0 ft (ix2 r l) * Ideal.ofBits .f32 991054117#32 := by
    pointwise [run.sl.v97, run.sl.v96, run.sl.cst_41]
  rw [h, v91_at c i M0 f0 ft P hQ]; rfl

/-- The scale of each window row, in every lane, -/
theorem v145_at (P : Fin 1280 → EReal) (hQ : ∀ l : Fin 128, run.sl.v85 c i ft (ix2 7 l) = rowMax P) (r : Fin 512) (l : Fin 128) :
    run.sl.v145 c i M0 f0 ft (ix2 r l) = kscale (scaled (rowMax (lwin (xb c M0 f0) P r))) := by
  have h : run.sl.v145 c i M0 f0 ft (ix2 r l) = if run.sl.v97 c i M0 f0 ft (ix2 r l) = Ideal.ofBits .f32 0#32 then Ideal.ofBits .f32 1065353216#32
      else Ideal.ofBits .f32 (IntOp.addi (run.sl.v138 c i M0 f0 ft (ix2 r l)) 8388608#32) := by
    pointwise [run.sl.v145, run.sl.v144, run.sl.v143, run.sl.v142, run.sl.v140, run.sl.v139, run.sl.v134, run.sl.cst_425, run.sl.cst_45]
  rw [h, field_at, v97_at c i M0 f0 ft P hQ, Ideal.ofBits_zero_f32]; rfl
/-- and its reciprocal scale. -/
theorem v150_at (P : Fin 1280 → EReal) (hQ : ∀ l : Fin 128, run.sl.v85 c i ft (ix2 7 l) = rowMax P) (r : Fin 512) (l : Fin 128) :
    run.sl.v150 c i M0 f0 ft (ix2 r l) = kinv (scaled (rowMax (lwin (xb c M0 f0) P r))) := by
  have h : run.sl.v150 c i M0 f0 ft (ix2 r l) = if run.sl.v97 c i M0 f0 ft (ix2 r l) = Ideal.ofBits .f32 0#32 then Ideal.ofBits .f32 1065353216#32
      else Ideal.ofBits .f32 (IntOp.subi 2122317824#32 (run.sl.v138 c i M0 f0 ft (ix2 r l))) := by
    pointwise [run.sl.v150, run.sl.v144, run.sl.v146, run.sl.v147, run.sl.v148, run.sl.v140, run.sl.v139, run.sl.cst_425, run.sl.cst_45]
  rw [h, field_at, v97_at c i M0 f0 ft P hQ, Ideal.ofBits_zero_f32]; rfl

end Cert.Proof.IRun

end
-- ==== Proof.ICodesA.lean ====
/-
  One grid point of the kernel's ideal form: the codes it stores, three runs of 128 columns a chunk: the odd rows before,
  the even rows and the odd rows.
-/
module

public import proofs.«01_k».proof.Proof.IRows
public import proofs.«01_k».proof.Proof.Spec
public import Idealize.ShloMosaic.Lib.Pipeline.ValueKit
public import Idealize.ShloMosaic.Lib.Pointwise

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords) (M0 : Memref sig .tc .vmem S1x1024x1280 .bf16) (f0 : Bf (F := Ideal) c M0)
  (fs : Bf (F := Ideal) c (Memref.whole cc0_scratch0)) (ft : Bf (F := Ideal) c (Memref.whole cc0_scratch1))

/-- The scratch of rows as the body reads it: zeros at a batch's first point, else what the point before left. -/
def tl : FVec Ideal S8x2x1280 .bf16 := (Memref.whole cc0_scratch0).view.read (Elt Ideal) (if hc : run.sl.v32 i = 1#1 then (Memref.whole cc0_scratch0).view.writes (Elt Ideal) fs [⟨Rect.unit ![0, 0, 0] S8x2x1280.size inb_S8x2x1280_S8x2x1280_0_0_0, (run.sl.k0_w1 (F := Ideal))⟩] else fs)

/-- The codes of the point's window rows, index by index. -/
def gc (P : Fin 1280 → EReal) (r : Fin 512) (j : Fin 3840) : EReal :=
  code (lwin (xb c M0 f0) P r j) (kinv (scaled (rowMax (lwin (xb c M0 f0) P r))))

/-- The same over the block's indices. -/
def Gc (P : Fin 1280 → EReal) : FVec Ideal S1x512x3840 .fp8e4m3 := fun y => gc c M0 f0 P (y 1) (y 2)

/-- The codes at an index of a run of columns. -/
theorem gc_emb (P : Fin 1280 → EReal) {col : Nat} (inb : ∀ a, (![0, 0, col] : Fin 3 → Nat) a + S1x512x128.size a ≤ S1x512x3840.size a) (r : Fin 512) (l : Fin 128)
    (j : Fin 3840) (hj : j.val = col + l.val) :
    Gc c M0 f0 P ((Rect.unit (s := S1x512x3840) ![0, 0, col] S1x512x128.size inb).emb (ix3 0 r l)) = gc c M0 f0 P r j := by
  unfold Gc
  refine congrArg₂ (gc c M0 f0 P) (Fin.ext ?_) (Fin.ext ?_)
  · rw [ValueKit.rect_emb_unit_val]; show 0 + r.val = r.val; omega
  · rw [ValueKit.rect_emb_unit_val, hj]; rfl

/-- Stored codes are the values by the reciprocal scale, clipped. -/
theorem clip_at (v : FVec Ideal S512x128 .bf16) (x : S512x128.Idx) :
    (shapeCast S1x512x128 (truncf .fp8e4m3 (minimumf run.sl.v253 (maximumf run.sl.v250 (mulf v (run.sl.v151 c i M0 f0 ft)))) (by decide)) shapeCasts_S512x128_S1x512x128) (ix3 0 (x 0) (x 1))
      = code (v x) (run.sl.v150 c i M0 f0 ft x) := by
  idx_vars x
  unfold code
  pointwise [run.sl.v253, run.sl.v252, run.sl.v250, run.sl.v249, run.sl.v151, run.sl.cst_77, run.sl.cst_78]

theorem v233_lo_at (r : Fin 512) (l : Fin 128) : run.sl.v233_lo c M0 f0 (ix2 r l) = xb c M0 f0 ⟨2 * r.val, by omega⟩ ⟨0 + l.val, by omega⟩ := by
  rw [← v34_at]; pointwise [run.sl.v233_lo]
theorem v233_hi_at (r : Fin 512) (l : Fin 128) : run.sl.v233_hi c M0 f0 (ix2 r l) = xb c M0 f0 ⟨2 * r.val + 1, by omega⟩ ⟨0 + l.val, by omega⟩ := by
  rw [← v34_at]; pointwise [run.sl.v233_hi]
theorem v234_raw_at (a : Fin 8) (s : Fin 2) (l : Fin 128) : run.sl.v234_raw c i fs (ix3 a s l) = tl c i fs (ix3 a s ⟨0 + l.val, by omega⟩) := by
  unfold run.sl.v234_raw tl
  simp only [View.readAt_eq_ld]
  pointwise
/-- Chunk 0 of the rows before the even rows. -/
theorem v237_hi_at (P : Fin 1280 → EReal) (hP : ∀ k : Fin 1280, tl c i fs (ix3 7 1 k) = P k) (r : Fin 512) (l : Fin 128) :
    run.sl.v237_hi c i M0 f0 fs (ix2 r l) = prevRow (xb c M0 f0) P r ⟨0 + l.val, by omega⟩ := by
  have h : run.sl.v237_hi c i M0 f0 fs (ix2 r l) = if h : (8 + r.val + 520 - 1) % 520 < 8 then run.sl.v234_raw c i fs (ix3 ⟨(8 + r.val + 520 - 1) % 520, h⟩ 1 l)
      else run.sl.v34 c M0 f0 (ix2 ⟨2 * ((8 + r.val + 520 - 1) % 520 - 8) + 1, by omega⟩ l) := by
    pointwise [run.sl.v237_hi, run.sl.v236_hi, run.sl.v235_hi, run.sl.v234_hi, run.sl.v233_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v234_raw_at, hP]
  · rw [dif_neg (by omega), dif_neg hr, v34_at]
    exact congrArg (fun a => xb c M0 f0 a _) (Fin.ext (by show 2 * ((8 + r.val + 520 - 1) % 520 - 8) + 1 = 2 * r.val - 1; omega))
/-- The codes stored at columns 0. -/
theorem v258_at (P : Fin 1280 → EReal) (hP : ∀ k : Fin 1280, tl c i fs (ix3 7 1 k) = P k) (hQ : ∀ l : Fin 128, run.sl.v85 c i ft (ix2 7 l) = rowMax P)
    (x : S1x512x128.Idx) : run.sl.v258 c i M0 f0 fs ft x = Gc c M0 f0 P ((Rect.unit (s := S1x512x3840) ![0, 0, 0] S1x512x128.size inb_S1x512x3840_S1x512x128_0_0_0).emb x) := by
  idx_vars x
  have h : run.sl.v258 c i M0 f0 fs ft (ix3 0 x1 x2) = code (run.sl.v237_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v237_hi_at c i M0 f0 fs P hP]
  rw [gc_emb c M0 f0 P inb_S1x512x3840_S1x512x128_0_0_0 x1 x2 ⟨0 + x2.val, by omega⟩ rfl]
  unfold gc
  refine congrArg (fun z => code z _) ?_
  exact (lwin_prev _ P x1 ⟨0 + x2.val, by omega⟩).symm.trans (congrArg (lwin _ P x1) (Fin.ext (by show 0 + x2.val = 0 + x2.val; omega)))
/-- The codes stored at columns 1280. -/
theorem v271_at (P : Fin 1280 → EReal) (hP : ∀ k : Fin 1280, tl c i fs (ix3 7 1 k) = P k) (hQ : ∀ l : Fin 128, run.sl.v85 c i ft (ix2 7 l) = rowMax P)
    (x : S1x512x128.Idx) : run.sl.v271 c i M0 f0 ft x = Gc c M0 f0 P ((Rect.unit (s := S1x512x3840) ![0, 0, 1280] S1x512x128.size inb_S1x512x3840_S1x512x128_0_0_1280).emb x) := by
  idx_vars x
  have h : run.sl.v271 c i M0 f0 ft (ix3 0 x1 x2) = code (run.sl.v233_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v233_lo_at]
  rw [gc_emb c M0 f0 P inb_S1x512x3840_S1x512x128_0_0_1280 x1 x2 ⟨1280 + x2.val, by omega⟩ rfl]
  unfold gc
  refine congrArg (fun z => code z _) ?_
  exact (lwin_even _ P x1 ⟨0 + x2.val, by omega⟩).symm.trans (congrArg (lwin _ P x1) (Fin.ext (by show 1280 + (0 + x2.val) = 1280 + x2.val; omega)))
/-- The codes stored at columns 2560. -/
theorem v284_at (P : Fin 1280 → EReal) (hP : ∀ k : Fin 1280, tl c i fs (ix3 7 1 k) = P k) (hQ : ∀ l : Fin 128, run.sl.v85 c i ft (ix2 7 l) = rowMax P)
    (x : S1x512x128.Idx) : run.sl.v284 c i M0 f0 ft x = Gc c M0 f0 P ((Rect.unit (s := S1x512x3840) ![0, 0, 2560] S1x512x128.size inb_S1x512x3840_S1x512x128_0_0_2560).emb x) := by
  idx_vars x
  have h : run.sl.v284 c i M0 f0 ft (ix3 0 x1 x2) = code (run.sl.v233_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v233_hi_at]
  rw [gc_emb c M0 f0 P inb_S1x512x3840_S1x512x128_0_0_2560 x1 x2 ⟨2560 + x2.val, by omega⟩ rfl]
  unfold gc
  refine congrArg (fun z => code z _) ?_
  exact (lwin_odd _ P x1 ⟨0 + x2.val, by omega⟩).symm.trans (congrArg (lwin _ P x1) (Fin.ext (by show 2560 + (0 + x2.val) = 2560 + x2.val; omega)))

theorem v287_lo_at (r : Fin 512) (l : Fin 128) : run.sl.v287_lo c M0 f0 (ix2 r l) = xb c M0 f0 ⟨2 * r.val, by omega⟩ ⟨128 + l.val, by omega⟩ := by
  rw [← v37_at]; pointwise [run.sl.v287_lo]
theorem v287_hi_at (r : Fin 512) (l : Fin 128) : run.sl.v287_hi c M0 f0 (ix2 r l) = xb c M0 f0 ⟨2 * r.val + 1, by omega⟩ ⟨128 + l.val, by omega⟩ := by
  rw [← v37_at]; pointwise [run.sl.v287_hi]
theorem v288_raw_at (a : Fin 8) (s : Fin 2) (l : Fin 128) : run.sl.v288_raw c i fs (ix3 a s l) = tl c i fs (ix3 a s ⟨128 + l.val, by omega⟩) := by
  unfold run.sl.v288_raw tl
  simp only [View.readAt_eq_ld]
  pointwise
/-- Chunk 1 of the rows before the even rows. -/
theorem v291_hi_at (P : Fin 1280 → EReal) (hP : ∀ k : Fin 1280, tl c i fs (ix3 7 1 k) = P k) (r : Fin 512) (l : Fin 128) :
    run.sl.v291_hi c i M0 f0 fs (ix2 r l) = prevRow (xb c M0 f0) P r ⟨128 + l.val, by omega⟩ := by
  have h : run.sl.v291_hi c i M0 f0 fs (ix2 r l) = if h : (8 + r.val + 520 - 1) % 520 < 8 then run.sl.v288_raw c i fs (ix3 ⟨(8 + r.val + 520 - 1) % 520, h⟩ 1 l)
      else run.sl.v37 c M0 f0 (ix2 ⟨2 * ((8 + r.val + 520 - 1) % 520 - 8) + 1, by omega⟩ l) := by
    pointwise [run.sl.v291_hi, run.sl.v290_hi, run.sl.v289_hi, run.sl.v288_hi, run.sl.v287_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v288_raw_at, hP]
  · rw [dif_neg (by omega), dif_neg hr, v37_at]
    exact congrArg (fun a => xb c M0 f0 a _) (Fin.ext (by show 2 * ((8 + r.val + 520 - 1) % 520 - 8) + 1 = 2 * r.val - 1; omega))
/-- The codes stored at columns 128. -/
theorem v312_at (P : Fin 1280 → EReal) (hP : ∀ k : Fin 1280, tl c i fs (ix3 7 1 k) = P k) (hQ : ∀ l : Fin 128, run.sl.v85 c i ft (ix2 7 l) = rowMax P)
    (x : S1x512x128.Idx) : run.sl.v312 c i M0 f0 fs ft x = Gc c M0 f0 P ((Rect.unit (s := S1x512x3840) ![0, 0, 128] S1x512x128.size inb_S1x512x3840_S1x512x128_0_0_128).emb x) := by
  idx_vars x
  have h : run.sl.v312 c i M0 f0 fs ft (ix3 0 x1 x2) = code (run.sl.v291_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v291_hi_at c i M0 f0 fs P hP]
  rw [gc_emb c M0 f0 P inb_S1x512x3840_S1x512x128_0_0_128 x1 x2 ⟨128 + x2.val, by omega⟩ rfl]
  unfold gc
  refine congrArg (fun z => code z _) ?_
  exact (lwin_prev _ P x1 ⟨128 + x2.val, by omega⟩).symm.trans (congrArg (lwin _ P x1) (Fin.ext (by show 128 + x2.val = 128 + x2.val; omega)))
/-- The codes stored at columns 1408. -/
theorem v325_at (P : Fin 1280 → EReal) (hP : ∀ k : Fin 1280, tl c i fs (ix3 7 1 k) = P k) (hQ : ∀ l : Fin 128, run.sl.v85 c i ft (ix2 7 l) = rowMax P)
    (x : S1x512x128.Idx) : run.sl.v325 c i M0 f0 ft x = Gc c M0 f0 P ((Rect.unit (s := S1x512x3840) ![0, 0, 1408] S1x512x128.size inb_S1x512x3840_S1x512x128_0_0_1408).emb x) := by
  idx_vars x
  have h : run.sl.v325 c i M0 f0 ft (ix3 0 x1 x2) = code (run.sl.v287_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v287_lo_at]
  rw [gc_emb c M0 f0 P inb_S1x512x3840_S1x512x128_0_0_1408 x1 x2 ⟨1408 + x2.val, by omega⟩ rfl]
  unfold gc
  refine congrArg (fun z => code z _) ?_
  exact (lwin_even _ P x1 ⟨128 + x2.val, by omega⟩).symm.trans (congrArg (lwin _ P x1) (Fin.ext (by show 1280 + (128 + x2.val) = 1408 + x2.val; omega)))
/-- The codes stored at columns 2688. -/
theorem v338_at (P : Fin 1280 → EReal) (hP : ∀ k : Fin 1280, tl c i fs (ix3 7 1 k) = P k) (hQ : ∀ l : Fin 128, run.sl.v85 c i ft (ix2 7 l) = rowMax P)
    (x : S1x512x128.Idx) : run.sl.v338 c i M0 f0 ft x = Gc c M0 f0 P ((Rect.unit (s := S1x512x3840) ![0, 0, 2688] S1x512x128.size inb_S1x512x3840_S1x512x128_0_0_2688).emb x) := by
  idx_vars x
  have h : run.sl.v338 c i M0 f0 ft (ix3 0 x1 x2) = code (run.sl.v287_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v287_hi_at]
  rw [gc_emb c M0 f0 P inb_S1x512x3840_S1x512x128_0_0_2688 x1 x2 ⟨2688 + x2.val, by omega⟩ rfl]
  unfold gc
  refine congrArg (fun z => code z _) ?_
  exact (lwin_odd _ P x1 ⟨128 + x2.val, by omega⟩).symm.trans (congrArg (lwin _ P x1) (Fin.ext (by show 2560 + (128 + x2.val) = 2688 + x2.val; omega)))

theorem v341_lo_at (r : Fin 512) (l : Fin 128) : run.sl.v341_lo c M0 f0 (ix2 r l) = xb c M0 f0 ⟨2 * r.val, by omega⟩ ⟨256 + l.val, by omega⟩ := by
  rw [← v41_at]; pointwise [run.sl.v341_lo]
theorem v341_hi_at (r : Fin 512) (l : Fin 128) : run.sl.v341_hi c M0 f0 (ix2 r l) = xb c M0 f0 ⟨2 * r.val + 1, by omega⟩ ⟨256 + l.val, by omega⟩ := by
  rw [← v41_at]; pointwise [run.sl.v341_hi]
theorem v342_raw_at (a : Fin 8) (s : Fin 2) (l : Fin 128) : run.sl.v342_raw c i fs (ix3 a s l) = tl c i fs (ix3 a s ⟨256 + l.val, by omega⟩) := by
  unfold run.sl.v342_raw tl
  simp only [View.readAt_eq_ld]
  pointwise
/-- Chunk 2 of the rows before the even rows. -/
theorem v345_hi_at (P : Fin 1280 → EReal) (hP : ∀ k : Fin 1280, tl c i fs (ix3 7 1 k) = P k) (r : Fin 512) (l : Fin 128) :
    run.sl.v345_hi c i M0 f0 fs (ix2 r l) = prevRow (xb c M0 f0) P r ⟨256 + l.val, by omega⟩ := by
  have h : run.sl.v345_hi c i M0 f0 fs (ix2 r l) = if h : (8 + r.val + 520 - 1) % 520 < 8 then run.sl.v342_raw c i fs (ix3 ⟨(8 + r.val + 520 - 1) % 520, h⟩ 1 l)
      else run.sl.v41 c M0 f0 (ix2 ⟨2 * ((8 + r.val + 520 - 1) % 520 - 8) + 1, by omega⟩ l) := by
    pointwise [run.sl.v345_hi, run.sl.v344_hi, run.sl.v343_hi, run.sl.v342_hi, run.sl.v341_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v342_raw_at, hP]
  · rw [dif_neg (by omega), dif_neg hr, v41_at]
    exact congrArg (fun a => xb c M0 f0 a _) (Fin.ext (by show 2 * ((8 + r.val + 520 - 1) % 520 - 8) + 1 = 2 * r.val - 1; omega))
/-- The codes stored at columns 256. -/
theorem v366_at (P : Fin 1280 → EReal) (hP : ∀ k : Fin 1280, tl c i fs (ix3 7 1 k) = P k) (hQ : ∀ l : Fin 128, run.sl.v85 c i ft (ix2 7 l) = rowMax P)
    (x : S1x512x128.Idx) : run.sl.v366 c i M0 f0 fs ft x = Gc c M0 f0 P ((Rect.unit (s := S1x512x3840) ![0, 0, 256] S1x512x128.size inb_S1x512x3840_S1x512x128_0_0_256).emb x) := by
  idx_vars x
  have h : run.sl.v366 c i M0 f0 fs ft (ix3 0 x1 x2) = code (run.sl.v345_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v345_hi_at c i M0 f0 fs P hP]
  rw [gc_emb c M0 f0 P inb_S1x512x3840_S1x512x128_0_0_256 x1 x2 ⟨256 + x2.val, by omega⟩ rfl]
  unfold gc
  refine congrArg (fun z => code z _) ?_
  exact (lwin_prev _ P x1 ⟨256 + x2.val, by omega⟩).symm.trans (congrArg (lwin _ P x1) (Fin.ext (by show 256 + x2.val = 256 + x2.val; omega)))
/-- The codes stored at columns 1536. -/
theorem v379_at (P : Fin 1280 → EReal) (hP : ∀ k : Fin 1280, tl c i fs (ix3 7 1 k) = P k) (hQ : ∀ l : Fin 128, run.sl.v85 c i ft (ix2 7 l) = rowMax P)
    (x : S1x512x128.Idx) : run.sl.v379 c i M0 f0 ft x = Gc c M0 f0 P ((Rect.unit (s := S1x512x3840) ![0, 0, 1536] S1x512x128.size inb_S1x512x3840_S1x512x128_0_0_1536).emb x) := by
  idx_vars x
  have h : run.sl.v379 c i M0 f0 ft (ix3 0 x1 x2) = code (run.sl.v341_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v341_lo_at]
  rw [gc_emb c M0 f0 P inb_S1x512x3840_S1x512x128_0_0_1536 x1 x2 ⟨1536 + x2.val, by omega⟩ rfl]
  unfold gc
  refine congrArg (fun z => code z _) ?_
  exact (lwin_even _ P x1 ⟨256 + x2.val, by omega⟩).symm.trans (congrArg (lwin _ P x1) (Fin.ext (by show 1280 + (256 + x2.val) = 1536 + x2.val; omega)))
/-- The codes stored at columns 2816. -/
theorem v392_at (P : Fin 1280 → EReal) (hP : ∀ k : Fin 1280, tl c i fs (ix3 7 1 k) = P k) (hQ : ∀ l : Fin 128, run.sl.v85 c i ft (ix2 7 l) = rowMax P)
    (x : S1x512x128.Idx) : run.sl.v392 c i M0 f0 ft x = Gc c M0 f0 P ((Rect.unit (s := S1x512x3840) ![0, 0, 2816] S1x512x128.size inb_S1x512x3840_S1x512x128_0_0_2816).emb x) := by
  idx_vars x
  have h : run.sl.v392 c i M0 f0 ft (ix3 0 x1 x2) = code (run.sl.v341_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v341_hi_at]
  rw [gc_emb c M0 f0 P inb_S1x512x3840_S1x512x128_0_0_2816 x1 x2 ⟨2816 + x2.val, by omega⟩ rfl]
  unfold gc
  refine congrArg (fun z => code z _) ?_
  exact (lwin_odd _ P x1 ⟨256 + x2.val, by omega⟩).symm.trans (congrArg (lwin _ P x1) (Fin.ext (by show 2560 + (256 + x2.val) = 2816 + x2.val; omega)))

theorem v395_lo_at (r : Fin 512) (l : Fin 128) : run.sl.v395_lo c M0 f0 (ix2 r l) = xb c M0 f0 ⟨2 * r.val, by omega⟩ ⟨384 + l.val, by omega⟩ := by
  rw [← v45_at]; pointwise [run.sl.v395_lo]
theorem v395_hi_at (r : Fin 512) (l : Fin 128) : run.sl.v395_hi c M0 f0 (ix2 r l) = xb c M0 f0 ⟨2 * r.val + 1, by omega⟩ ⟨384 + l.val, by omega⟩ := by
  rw [← v45_at]; pointwise [run.sl.v395_hi]
theorem v396_raw_at (a : Fin 8) (s : Fin 2) (l : Fin 128) : run.sl.v396_raw c i fs (ix3 a s l) = tl c i fs (ix3 a s ⟨384 + l.val, by omega⟩) := by
  unfold run.sl.v396_raw tl
  simp only [View.readAt_eq_ld]
  pointwise
/-- Chunk 3 of the rows before the even rows. -/
theorem v399_hi_at (P : Fin 1280 → EReal) (hP : ∀ k : Fin 1280, tl c i fs (ix3 7 1 k) = P k) (r : Fin 512) (l : Fin 128) :
    run.sl.v399_hi c i M0 f0 fs (ix2 r l) = prevRow (xb c M0 f0) P r ⟨384 + l.val, by omega⟩ := by
  have h : run.sl.v399_hi c i M0 f0 fs (ix2 r l) = if h : (8 + r.val + 520 - 1) % 520 < 8 then run.sl.v396_raw c i fs (ix3 ⟨(8 + r.val + 520 - 1) % 520, h⟩ 1 l)
      else run.sl.v45 c M0 f0 (ix2 ⟨2 * ((8 + r.val + 520 - 1) % 520 - 8) + 1, by omega⟩ l) := by
    pointwise [run.sl.v399_hi, run.sl.v398_hi, run.sl.v397_hi, run.sl.v396_hi, run.sl.v395_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v396_raw_at, hP]
  · rw [dif_neg (by omega), dif_neg hr, v45_at]
    exact congrArg (fun a => xb c M0 f0 a _) (Fin.ext (by show 2 * ((8 + r.val + 520 - 1) % 520 - 8) + 1 = 2 * r.val - 1; omega))
/-- The codes stored at columns 384. -/
theorem v420_at (P : Fin 1280 → EReal) (hP : ∀ k : Fin 1280, tl c i fs (ix3 7 1 k) = P k) (hQ : ∀ l : Fin 128, run.sl.v85 c i ft (ix2 7 l) = rowMax P)
    (x : S1x512x128.Idx) : run.sl.v420 c i M0 f0 fs ft x = Gc c M0 f0 P ((Rect.unit (s := S1x512x3840) ![0, 0, 384] S1x512x128.size inb_S1x512x3840_S1x512x128_0_0_384).emb x) := by
  idx_vars x
  have h : run.sl.v420 c i M0 f0 fs ft (ix3 0 x1 x2) = code (run.sl.v399_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v399_hi_at c i M0 f0 fs P hP]
  rw [gc_emb c M0 f0 P inb_S1x512x3840_S1x512x128_0_0_384 x1 x2 ⟨384 + x2.val, by omega⟩ rfl]
  unfold gc
  refine congrArg (fun z => code z _) ?_
  exact (lwin_prev _ P x1 ⟨384 + x2.val, by omega⟩).symm.trans (congrArg (lwin _ P x1) (Fin.ext (by show 384 + x2.val = 384 + x2.val; omega)))
/-- The codes stored at columns 1664. -/
theorem v433_at (P : Fin 1280 → EReal) (hP : ∀ k : Fin 1280, tl c i fs (ix3 7 1 k) = P k) (hQ : ∀ l : Fin 128, run.sl.v85 c i ft (ix2 7 l) = rowMax P)
    (x : S1x512x128.Idx) : run.sl.v433 c i M0 f0 ft x = Gc c M0 f0 P ((Rect.unit (s := S1x512x3840) ![0, 0, 1664] S1x512x128.size inb_S1x512x3840_S1x512x128_0_0_1664).emb x) := by
  idx_vars x
  have h : run.sl.v433 c i M0 f0 ft (ix3 0 x1 x2) = code (run.sl.v395_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v395_lo_at]
  rw [gc_emb c M0 f0 P inb_S1x512x3840_S1x512x128_0_0_1664 x1 x2 ⟨1664 + x2.val, by omega⟩ rfl]
  unfold gc
  refine congrArg (fun z => code z _) ?_
  exact (lwin_even _ P x1 ⟨384 + x2.val, by omega⟩).symm.trans (congrArg (lwin _ P x1) (Fin.ext (by show 1280 + (384 + x2.val) = 1664 + x2.val; omega)))
/-- The codes stored at columns 2944. -/
theorem v446_at (P : Fin 1280 → EReal) (hP : ∀ k : Fin 1280, tl c i fs (ix3 7 1 k) = P k) (hQ : ∀ l : Fin 128, run.sl.v85 c i ft (ix2 7 l) = rowMax P)
    (x : S1x512x128.Idx) : run.sl.v446 c i M0 f0 ft x = Gc c M0 f0 P ((Rect.unit (s := S1x512x3840) ![0, 0, 2944] S1x512x128.size inb_S1x512x3840_S1x512x128_0_0_2944).emb x) := by
  idx_vars x
  have h : run.sl.v446 c i M0 f0 ft (ix3 0 x1 x2) = code (run.sl.v395_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v395_hi_at]
  rw [gc_emb c M0 f0 P inb_S1x512x3840_S1x512x128_0_0_2944 x1 x2 ⟨2944 + x2.val, by omega⟩ rfl]
  unfold gc
  refine congrArg (fun z => code z _) ?_
  exact (lwin_odd _ P x1 ⟨384 + x2.val, by omega⟩).symm.trans (congrArg (lwin _ P x1) (Fin.ext (by show 2560 + (384 + x2.val) = 2944 + x2.val; omega)))

theorem v449_lo_at (r : Fin 512) (l : Fin 128) : run.sl.v449_lo c M0 f0 (ix2 r l) = xb c M0 f0 ⟨2 * r.val, by omega⟩ ⟨512 + l.val, by omega⟩ := by
  rw [← v49_at]; pointwise [run.sl.v449_lo]
theorem v449_hi_at (r : Fin 512) (l : Fin 128) : run.sl.v449_hi c M0 f0 (ix2 r l) = xb c M0 f0 ⟨2 * r.val + 1, by omega⟩ ⟨512 + l.val, by omega⟩ := by
  rw [← v49_at]; pointwise [run.sl.v449_hi]
theorem v450_raw_at (a : Fin 8) (s : Fin 2) (l : Fin 128) : run.sl.v450_raw c i fs (ix3 a s l) = tl c i fs (ix3 a s ⟨512 + l.val, by omega⟩) := by
  unfold run.sl.v450_raw tl
  simp only [View.readAt_eq_ld]
  pointwise
/-- Chunk 4 of the rows before the even rows. -/
theorem v453_hi_at (P : Fin 1280 → EReal) (hP : ∀ k : Fin 1280, tl c i fs (ix3 7 1 k) = P k) (r : Fin 512) (l : Fin 128) :
    run.sl.v453_hi c i M0 f0 fs (ix2 r l) = prevRow (xb c M0 f0) P r ⟨512 + l.val, by omega⟩ := by
  have h : run.sl.v453_hi c i M0 f0 fs (ix2 r l) = if h : (8 + r.val + 520 - 1) % 520 < 8 then run.sl.v450_raw c i fs (ix3 ⟨(8 + r.val + 520 - 1) % 520, h⟩ 1 l)
      else run.sl.v49 c M0 f0 (ix2 ⟨2 * ((8 + r.val + 520 - 1) % 520 - 8) + 1, by omega⟩ l) := by
    pointwise [run.sl.v453_hi, run.sl.v452_hi, run.sl.v451_hi, run.sl.v450_hi, run.sl.v449_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v450_raw_at, hP]
  · rw [dif_neg (by omega), dif_neg hr, v49_at]
    exact congrArg (fun a => xb c M0 f0 a _) (Fin.ext (by show 2 * ((8 + r.val + 520 - 1) % 520 - 8) + 1 = 2 * r.val - 1; omega))
/-- The codes stored at columns 512. -/
theorem v474_at (P : Fin 1280 → EReal) (hP : ∀ k : Fin 1280, tl c i fs (ix3 7 1 k) = P k) (hQ : ∀ l : Fin 128, run.sl.v85 c i ft (ix2 7 l) = rowMax P)
    (x : S1x512x128.Idx) : run.sl.v474 c i M0 f0 fs ft x = Gc c M0 f0 P ((Rect.unit (s := S1x512x3840) ![0, 0, 512] S1x512x128.size inb_S1x512x3840_S1x512x128_0_0_512).emb x) := by
  idx_vars x
  have h : run.sl.v474 c i M0 f0 fs ft (ix3 0 x1 x2) = code (run.sl.v453_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v453_hi_at c i M0 f0 fs P hP]
  rw [gc_emb c M0 f0 P inb_S1x512x3840_S1x512x128_0_0_512 x1 x2 ⟨512 + x2.val, by omega⟩ rfl]
  unfold gc
  refine congrArg (fun z => code z _) ?_
  exact (lwin_prev _ P x1 ⟨512 + x2.val, by omega⟩).symm.trans (congrArg (lwin _ P x1) (Fin.ext (by show 512 + x2.val = 512 + x2.val; omega)))
/-- The codes stored at columns 1792. -/
theorem v487_at (P : Fin 1280 → EReal) (hP : ∀ k : Fin 1280, tl c i fs (ix3 7 1 k) = P k) (hQ : ∀ l : Fin 128, run.sl.v85 c i ft (ix2 7 l) = rowMax P)
    (x : S1x512x128.Idx) : run.sl.v487 c i M0 f0 ft x = Gc c M0 f0 P ((Rect.unit (s := S1x512x3840) ![0, 0, 1792] S1x512x128.size inb_S1x512x3840_S1x512x128_0_0_1792).emb x) := by
  idx_vars x
  have h : run.sl.v487 c i M0 f0 ft (ix3 0 x1 x2) = code (run.sl.v449_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v449_lo_at]
  rw [gc_emb c M0 f0 P inb_S1x512x3840_S1x512x128_0_0_1792 x1 x2 ⟨1792 + x2.val, by omega⟩ rfl]
  unfold gc
  refine congrArg (fun z => code z _) ?_
  exact (lwin_even _ P x1 ⟨512 + x2.val, by omega⟩).symm.trans (congrArg (lwin _ P x1) (Fin.ext (by show 1280 + (512 + x2.val) = 1792 + x2.val; omega)))
/-- The codes stored at columns 3072. -/
theorem v500_at (P : Fin 1280 → EReal) (hP : ∀ k : Fin 1280, tl c i fs (ix3 7 1 k) = P k) (hQ : ∀ l : Fin 128, run.sl.v85 c i ft (ix2 7 l) = rowMax P)
    (x : S1x512x128.Idx) : run.sl.v500 c i M0 f0 ft x = Gc c M0 f0 P ((Rect.unit (s := S1x512x3840) ![0, 0, 3072] S1x512x128.size inb_S1x512x3840_S1x512x128_0_0_3072).emb x) := by
  idx_vars x
  have h : run.sl.v500 c i M0 f0 ft (ix3 0 x1 x2) = code (run.sl.v449_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v449_hi_at]
  rw [gc_emb c M0 f0 P inb_S1x512x3840_S1x512x128_0_0_3072 x1 x2 ⟨3072 + x2.val, by omega⟩ rfl]
  unfold gc
  refine congrArg (fun z => code z _) ?_
  exact (lwin_odd _ P x1 ⟨512 + x2.val, by omega⟩).symm.trans (congrArg (lwin _ P x1) (Fin.ext (by show 2560 + (512 + x2.val) = 3072 + x2.val; omega)))

end Cert.Proof.IRun

end
-- ==== Proof.ICodesB.lean ====
/-
  One grid point of the kernel's ideal form: the codes it stores, three runs of 128 columns a chunk: the odd rows before,
  the even rows and the odd rows.
-/
module

public import proofs.«01_k».proof.Proof.ICodesA
public import proofs.«01_k».proof.Proof.Spec
public import Idealize.ShloMosaic.Lib.Pipeline.ValueKit
public import Idealize.ShloMosaic.Lib.Pointwise

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords) (M0 : Memref sig .tc .vmem S1x1024x1280 .bf16) (f0 : Bf (F := Ideal) c M0)
  (fs : Bf (F := Ideal) c (Memref.whole cc0_scratch0)) (ft : Bf (F := Ideal) c (Memref.whole cc0_scratch1))

theorem v503_lo_at (r : Fin 512) (l : Fin 128) : run.sl.v503_lo c M0 f0 (ix2 r l) = xb c M0 f0 ⟨2 * r.val, by omega⟩ ⟨640 + l.val, by omega⟩ := by
  rw [← v53_at]; pointwise [run.sl.v503_lo]
theorem v503_hi_at (r : Fin 512) (l : Fin 128) : run.sl.v503_hi c M0 f0 (ix2 r l) = xb c M0 f0 ⟨2 * r.val + 1, by omega⟩ ⟨640 + l.val, by omega⟩ := by
  rw [← v53_at]; pointwise [run.sl.v503_hi]
theorem v504_raw_at (a : Fin 8) (s : Fin 2) (l : Fin 128) : run.sl.v504_raw c i fs (ix3 a s l) = tl c i fs (ix3 a s ⟨640 + l.val, by omega⟩) := by
  unfold run.sl.v504_raw tl
  simp only [View.readAt_eq_ld]
  pointwise
/-- Chunk 5 of the rows before the even rows. -/
theorem v507_hi_at (P : Fin 1280 → EReal) (hP : ∀ k : Fin 1280, tl c i fs (ix3 7 1 k) = P k) (r : Fin 512) (l : Fin 128) :
    run.sl.v507_hi c i M0 f0 fs (ix2 r l) = prevRow (xb c M0 f0) P r ⟨640 + l.val, by omega⟩ := by
  have h : run.sl.v507_hi c i M0 f0 fs (ix2 r l) = if h : (8 + r.val + 520 - 1) % 520 < 8 then run.sl.v504_raw c i fs (ix3 ⟨(8 + r.val + 520 - 1) % 520, h⟩ 1 l)
      else run.sl.v53 c M0 f0 (ix2 ⟨2 * ((8 + r.val + 520 - 1) % 520 - 8) + 1, by omega⟩ l) := by
    pointwise [run.sl.v507_hi, run.sl.v506_hi, run.sl.v505_hi, run.sl.v504_hi, run.sl.v503_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v504_raw_at, hP]
  · rw [dif_neg (by omega), dif_neg hr, v53_at]
    exact congrArg (fun a => xb c M0 f0 a _) (Fin.ext (by show 2 * ((8 + r.val + 520 - 1) % 520 - 8) + 1 = 2 * r.val - 1; omega))
/-- The codes stored at columns 640. -/
theorem v528_at (P : Fin 1280 → EReal) (hP : ∀ k : Fin 1280, tl c i fs (ix3 7 1 k) = P k) (hQ : ∀ l : Fin 128, run.sl.v85 c i ft (ix2 7 l) = rowMax P)
    (x : S1x512x128.Idx) : run.sl.v528 c i M0 f0 fs ft x = Gc c M0 f0 P ((Rect.unit (s := S1x512x3840) ![0, 0, 640] S1x512x128.size inb_S1x512x3840_S1x512x128_0_0_640).emb x) := by
  idx_vars x
  have h : run.sl.v528 c i M0 f0 fs ft (ix3 0 x1 x2) = code (run.sl.v507_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v507_hi_at c i M0 f0 fs P hP]
  rw [gc_emb c M0 f0 P inb_S1x512x3840_S1x512x128_0_0_640 x1 x2 ⟨640 + x2.val, by omega⟩ rfl]
  unfold gc
  refine congrArg (fun z => code z _) ?_
  exact (lwin_prev _ P x1 ⟨640 + x2.val, by omega⟩).symm.trans (congrArg (lwin _ P x1) (Fin.ext (by show 640 + x2.val = 640 + x2.val; omega)))
/-- The codes stored at columns 1920. -/
theorem v541_at (P : Fin 1280 → EReal) (hP : ∀ k : Fin 1280, tl c i fs (ix3 7 1 k) = P k) (hQ : ∀ l : Fin 128, run.sl.v85 c i ft (ix2 7 l) = rowMax P)
    (x : S1x512x128.Idx) : run.sl.v541 c i M0 f0 ft x = Gc c M0 f0 P ((Rect.unit (s := S1x512x3840) ![0, 0, 1920] S1x512x128.size inb_S1x512x3840_S1x512x128_0_0_1920).emb x) := by
  idx_vars x
  have h : run.sl.v541 c i M0 f0 ft (ix3 0 x1 x2) = code (run.sl.v503_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v503_lo_at]
  rw [gc_emb c M0 f0 P inb_S1x512x3840_S1x512x128_0_0_1920 x1 x2 ⟨1920 + x2.val, by omega⟩ rfl]
  unfold gc
  refine congrArg (fun z => code z _) ?_
  exact (lwin_even _ P x1 ⟨640 + x2.val, by omega⟩).symm.trans (congrArg (lwin _ P x1) (Fin.ext (by show 1280 + (640 + x2.val) = 1920 + x2.val; omega)))
/-- The codes stored at columns 3200. -/
theorem v554_at (P : Fin 1280 → EReal) (hP : ∀ k : Fin 1280, tl c i fs (ix3 7 1 k) = P k) (hQ : ∀ l : Fin 128, run.sl.v85 c i ft (ix2 7 l) = rowMax P)
    (x : S1x512x128.Idx) : run.sl.v554 c i M0 f0 ft x = Gc c M0 f0 P ((Rect.unit (s := S1x512x3840) ![0, 0, 3200] S1x512x128.size inb_S1x512x3840_S1x512x128_0_0_3200).emb x) := by
  idx_vars x
  have h : run.sl.v554 c i M0 f0 ft (ix3 0 x1 x2) = code (run.sl.v503_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v503_hi_at]
  rw [gc_emb c M0 f0 P inb_S1x512x3840_S1x512x128_0_0_3200 x1 x2 ⟨3200 + x2.val, by omega⟩ rfl]
  unfold gc
  refine congrArg (fun z => code z _) ?_
  exact (lwin_odd _ P x1 ⟨640 + x2.val, by omega⟩).symm.trans (congrArg (lwin _ P x1) (Fin.ext (by show 2560 + (640 + x2.val) = 3200 + x2.val; omega)))

theorem v557_lo_at (r : Fin 512) (l : Fin 128) : run.sl.v557_lo c M0 f0 (ix2 r l) = xb c M0 f0 ⟨2 * r.val, by omega⟩ ⟨768 + l.val, by omega⟩ := by
  rw [← v57_at]; pointwise [run.sl.v557_lo]
theorem v557_hi_at (r : Fin 512) (l : Fin 128) : run.sl.v557_hi c M0 f0 (ix2 r l) = xb c M0 f0 ⟨2 * r.val + 1, by omega⟩ ⟨768 + l.val, by omega⟩ := by
  rw [← v57_at]; pointwise [run.sl.v557_hi]
theorem v558_raw_at (a : Fin 8) (s : Fin 2) (l : Fin 128) : run.sl.v558_raw c i fs (ix3 a s l) = tl c i fs (ix3 a s ⟨768 + l.val, by omega⟩) := by
  unfold run.sl.v558_raw tl
  simp only [View.readAt_eq_ld]
  pointwise
/-- Chunk 6 of the rows before the even rows. -/
theorem v561_hi_at (P : Fin 1280 → EReal) (hP : ∀ k : Fin 1280, tl c i fs (ix3 7 1 k) = P k) (r : Fin 512) (l : Fin 128) :
    run.sl.v561_hi c i M0 f0 fs (ix2 r l) = prevRow (xb c M0 f0) P r ⟨768 + l.val, by omega⟩ := by
  have h : run.sl.v561_hi c i M0 f0 fs (ix2 r l) = if h : (8 + r.val + 520 - 1) % 520 < 8 then run.sl.v558_raw c i fs (ix3 ⟨(8 + r.val + 520 - 1) % 520, h⟩ 1 l)
      else run.sl.v57 c M0 f0 (ix2 ⟨2 * ((8 + r.val + 520 - 1) % 520 - 8) + 1, by omega⟩ l) := by
    pointwise [run.sl.v561_hi, run.sl.v560_hi, run.sl.v559_hi, run.sl.v558_hi, run.sl.v557_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v558_raw_at, hP]
  · rw [dif_neg (by omega), dif_neg hr, v57_at]
    exact congrArg (fun a => xb c M0 f0 a _) (Fin.ext (by show 2 * ((8 + r.val + 520 - 1) % 520 - 8) + 1 = 2 * r.val - 1; omega))
/-- The codes stored at columns 768. -/
theorem v582_at (P : Fin 1280 → EReal) (hP : ∀ k : Fin 1280, tl c i fs (ix3 7 1 k) = P k) (hQ : ∀ l : Fin 128, run.sl.v85 c i ft (ix2 7 l) = rowMax P)
    (x : S1x512x128.Idx) : run.sl.v582 c i M0 f0 fs ft x = Gc c M0 f0 P ((Rect.unit (s := S1x512x3840) ![0, 0, 768] S1x512x128.size inb_S1x512x3840_S1x512x128_0_0_768).emb x) := by
  idx_vars x
  have h : run.sl.v582 c i M0 f0 fs ft (ix3 0 x1 x2) = code (run.sl.v561_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v561_hi_at c i M0 f0 fs P hP]
  rw [gc_emb c M0 f0 P inb_S1x512x3840_S1x512x128_0_0_768 x1 x2 ⟨768 + x2.val, by omega⟩ rfl]
  unfold gc
  refine congrArg (fun z => code z _) ?_
  exact (lwin_prev _ P x1 ⟨768 + x2.val, by omega⟩).symm.trans (congrArg (lwin _ P x1) (Fin.ext (by show 768 + x2.val = 768 + x2.val; omega)))
/-- The codes stored at columns 2048. -/
theorem v595_at (P : Fin 1280 → EReal) (hP : ∀ k : Fin 1280, tl c i fs (ix3 7 1 k) = P k) (hQ : ∀ l : Fin 128, run.sl.v85 c i ft (ix2 7 l) = rowMax P)
    (x : S1x512x128.Idx) : run.sl.v595 c i M0 f0 ft x = Gc c M0 f0 P ((Rect.unit (s := S1x512x3840) ![0, 0, 2048] S1x512x128.size inb_S1x512x3840_S1x512x128_0_0_2048).emb x) := by
  idx_vars x
  have h : run.sl.v595 c i M0 f0 ft (ix3 0 x1 x2) = code (run.sl.v557_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v557_lo_at]
  rw [gc_emb c M0 f0 P inb_S1x512x3840_S1x512x128_0_0_2048 x1 x2 ⟨2048 + x2.val, by omega⟩ rfl]
  unfold gc
  refine congrArg (fun z => code z _) ?_
  exact (lwin_even _ P x1 ⟨768 + x2.val, by omega⟩).symm.trans (congrArg (lwin _ P x1) (Fin.ext (by show 1280 + (768 + x2.val) = 2048 + x2.val; omega)))
/-- The codes stored at columns 3328. -/
theorem v608_at (P : Fin 1280 → EReal) (hP : ∀ k : Fin 1280, tl c i fs (ix3 7 1 k) = P k) (hQ : ∀ l : Fin 128, run.sl.v85 c i ft (ix2 7 l) = rowMax P)
    (x : S1x512x128.Idx) : run.sl.v608 c i M0 f0 ft x = Gc c M0 f0 P ((Rect.unit (s := S1x512x3840) ![0, 0, 3328] S1x512x128.size inb_S1x512x3840_S1x512x128_0_0_3328).emb x) := by
  idx_vars x
  have h : run.sl.v608 c i M0 f0 ft (ix3 0 x1 x2) = code (run.sl.v557_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v557_hi_at]
  rw [gc_emb c M0 f0 P inb_S1x512x3840_S1x512x128_0_0_3328 x1 x2 ⟨3328 + x2.val, by omega⟩ rfl]
  unfold gc
  refine congrArg (fun z => code z _) ?_
  exact (lwin_odd _ P x1 ⟨768 + x2.val, by omega⟩).symm.trans (congrArg (lwin _ P x1) (Fin.ext (by show 2560 + (768 + x2.val) = 3328 + x2.val; omega)))

theorem v611_lo_at (r : Fin 512) (l : Fin 128) : run.sl.v611_lo c M0 f0 (ix2 r l) = xb c M0 f0 ⟨2 * r.val, by omega⟩ ⟨896 + l.val, by omega⟩ := by
  rw [← v61_at]; pointwise [run.sl.v611_lo]
theorem v611_hi_at (r : Fin 512) (l : Fin 128) : run.sl.v611_hi c M0 f0 (ix2 r l) = xb c M0 f0 ⟨2 * r.val + 1, by omega⟩ ⟨896 + l.val, by omega⟩ := by
  rw [← v61_at]; pointwise [run.sl.v611_hi]
theorem v612_raw_at (a : Fin 8) (s : Fin 2) (l : Fin 128) : run.sl.v612_raw c i fs (ix3 a s l) = tl c i fs (ix3 a s ⟨896 + l.val, by omega⟩) := by
  unfold run.sl.v612_raw tl
  simp only [View.readAt_eq_ld]
  pointwise
/-- Chunk 7 of the rows before the even rows. -/
theorem v615_hi_at (P : Fin 1280 → EReal) (hP : ∀ k : Fin 1280, tl c i fs (ix3 7 1 k) = P k) (r : Fin 512) (l : Fin 128) :
    run.sl.v615_hi c i M0 f0 fs (ix2 r l) = prevRow (xb c M0 f0) P r ⟨896 + l.val, by omega⟩ := by
  have h : run.sl.v615_hi c i M0 f0 fs (ix2 r l) = if h : (8 + r.val + 520 - 1) % 520 < 8 then run.sl.v612_raw c i fs (ix3 ⟨(8 + r.val + 520 - 1) % 520, h⟩ 1 l)
      else run.sl.v61 c M0 f0 (ix2 ⟨2 * ((8 + r.val + 520 - 1) % 520 - 8) + 1, by omega⟩ l) := by
    pointwise [run.sl.v615_hi, run.sl.v614_hi, run.sl.v613_hi, run.sl.v612_hi, run.sl.v611_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v612_raw_at, hP]
  · rw [dif_neg (by omega), dif_neg hr, v61_at]
    exact congrArg (fun a => xb c M0 f0 a _) (Fin.ext (by show 2 * ((8 + r.val + 520 - 1) % 520 - 8) + 1 = 2 * r.val - 1; omega))
/-- The codes stored at columns 896. -/
theorem v636_at (P : Fin 1280 → EReal) (hP : ∀ k : Fin 1280, tl c i fs (ix3 7 1 k) = P k) (hQ : ∀ l : Fin 128, run.sl.v85 c i ft (ix2 7 l) = rowMax P)
    (x : S1x512x128.Idx) : run.sl.v636 c i M0 f0 fs ft x = Gc c M0 f0 P ((Rect.unit (s := S1x512x3840) ![0, 0, 896] S1x512x128.size inb_S1x512x3840_S1x512x128_0_0_896).emb x) := by
  idx_vars x
  have h : run.sl.v636 c i M0 f0 fs ft (ix3 0 x1 x2) = code (run.sl.v615_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v615_hi_at c i M0 f0 fs P hP]
  rw [gc_emb c M0 f0 P inb_S1x512x3840_S1x512x128_0_0_896 x1 x2 ⟨896 + x2.val, by omega⟩ rfl]
  unfold gc
  refine congrArg (fun z => code z _) ?_
  exact (lwin_prev _ P x1 ⟨896 + x2.val, by omega⟩).symm.trans (congrArg (lwin _ P x1) (Fin.ext (by show 896 + x2.val = 896 + x2.val; omega)))
/-- The codes stored at columns 2176. -/
theorem v649_at (P : Fin 1280 → EReal) (hP : ∀ k : Fin 1280, tl c i fs (ix3 7 1 k) = P k) (hQ : ∀ l : Fin 128, run.sl.v85 c i ft (ix2 7 l) = rowMax P)
    (x : S1x512x128.Idx) : run.sl.v649 c i M0 f0 ft x = Gc c M0 f0 P ((Rect.unit (s := S1x512x3840) ![0, 0, 2176] S1x512x128.size inb_S1x512x3840_S1x512x128_0_0_2176).emb x) := by
  idx_vars x
  have h : run.sl.v649 c i M0 f0 ft (ix3 0 x1 x2) = code (run.sl.v611_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v611_lo_at]
  rw [gc_emb c M0 f0 P inb_S1x512x3840_S1x512x128_0_0_2176 x1 x2 ⟨2176 + x2.val, by omega⟩ rfl]
  unfold gc
  refine congrArg (fun z => code z _) ?_
  exact (lwin_even _ P x1 ⟨896 + x2.val, by omega⟩).symm.trans (congrArg (lwin _ P x1) (Fin.ext (by show 1280 + (896 + x2.val) = 2176 + x2.val; omega)))
/-- The codes stored at columns 3456. -/
theorem v662_at (P : Fin 1280 → EReal) (hP : ∀ k : Fin 1280, tl c i fs (ix3 7 1 k) = P k) (hQ : ∀ l : Fin 128, run.sl.v85 c i ft (ix2 7 l) = rowMax P)
    (x : S1x512x128.Idx) : run.sl.v662 c i M0 f0 ft x = Gc c M0 f0 P ((Rect.unit (s := S1x512x3840) ![0, 0, 3456] S1x512x128.size inb_S1x512x3840_S1x512x128_0_0_3456).emb x) := by
  idx_vars x
  have h : run.sl.v662 c i M0 f0 ft (ix3 0 x1 x2) = code (run.sl.v611_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v611_hi_at]
  rw [gc_emb c M0 f0 P inb_S1x512x3840_S1x512x128_0_0_3456 x1 x2 ⟨3456 + x2.val, by omega⟩ rfl]
  unfold gc
  refine congrArg (fun z => code z _) ?_
  exact (lwin_odd _ P x1 ⟨896 + x2.val, by omega⟩).symm.trans (congrArg (lwin _ P x1) (Fin.ext (by show 2560 + (896 + x2.val) = 3456 + x2.val; omega)))

theorem v665_lo_at (r : Fin 512) (l : Fin 128) : run.sl.v665_lo c M0 f0 (ix2 r l) = xb c M0 f0 ⟨2 * r.val, by omega⟩ ⟨1024 + l.val, by omega⟩ := by
  rw [← v65_at]; pointwise [run.sl.v665_lo]
theorem v665_hi_at (r : Fin 512) (l : Fin 128) : run.sl.v665_hi c M0 f0 (ix2 r l) = xb c M0 f0 ⟨2 * r.val + 1, by omega⟩ ⟨1024 + l.val, by omega⟩ := by
  rw [← v65_at]; pointwise [run.sl.v665_hi]
theorem v666_raw_at (a : Fin 8) (s : Fin 2) (l : Fin 128) : run.sl.v666_raw c i fs (ix3 a s l) = tl c i fs (ix3 a s ⟨1024 + l.val, by omega⟩) := by
  unfold run.sl.v666_raw tl
  simp only [View.readAt_eq_ld]
  pointwise
/-- Chunk 8 of the rows before the even rows. -/
theorem v669_hi_at (P : Fin 1280 → EReal) (hP : ∀ k : Fin 1280, tl c i fs (ix3 7 1 k) = P k) (r : Fin 512) (l : Fin 128) :
    run.sl.v669_hi c i M0 f0 fs (ix2 r l) = prevRow (xb c M0 f0) P r ⟨1024 + l.val, by omega⟩ := by
  have h : run.sl.v669_hi c i M0 f0 fs (ix2 r l) = if h : (8 + r.val + 520 - 1) % 520 < 8 then run.sl.v666_raw c i fs (ix3 ⟨(8 + r.val + 520 - 1) % 520, h⟩ 1 l)
      else run.sl.v65 c M0 f0 (ix2 ⟨2 * ((8 + r.val + 520 - 1) % 520 - 8) + 1, by omega⟩ l) := by
    pointwise [run.sl.v669_hi, run.sl.v668_hi, run.sl.v667_hi, run.sl.v666_hi, run.sl.v665_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v666_raw_at, hP]
  · rw [dif_neg (by omega), dif_neg hr, v65_at]
    exact congrArg (fun a => xb c M0 f0 a _) (Fin.ext (by show 2 * ((8 + r.val + 520 - 1) % 520 - 8) + 1 = 2 * r.val - 1; omega))
/-- The codes stored at columns 1024. -/
theorem v690_at (P : Fin 1280 → EReal) (hP : ∀ k : Fin 1280, tl c i fs (ix3 7 1 k) = P k) (hQ : ∀ l : Fin 128, run.sl.v85 c i ft (ix2 7 l) = rowMax P)
    (x : S1x512x128.Idx) : run.sl.v690 c i M0 f0 fs ft x = Gc c M0 f0 P ((Rect.unit (s := S1x512x3840) ![0, 0, 1024] S1x512x128.size inb_S1x512x3840_S1x512x128_0_0_1024).emb x) := by
  idx_vars x
  have h : run.sl.v690 c i M0 f0 fs ft (ix3 0 x1 x2) = code (run.sl.v669_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v669_hi_at c i M0 f0 fs P hP]
  rw [gc_emb c M0 f0 P inb_S1x512x3840_S1x512x128_0_0_1024 x1 x2 ⟨1024 + x2.val, by omega⟩ rfl]
  unfold gc
  refine congrArg (fun z => code z _) ?_
  exact (lwin_prev _ P x1 ⟨1024 + x2.val, by omega⟩).symm.trans (congrArg (lwin _ P x1) (Fin.ext (by show 1024 + x2.val = 1024 + x2.val; omega)))
/-- The codes stored at columns 2304. -/
theorem v703_at (P : Fin 1280 → EReal) (hP : ∀ k : Fin 1280, tl c i fs (ix3 7 1 k) = P k) (hQ : ∀ l : Fin 128, run.sl.v85 c i ft (ix2 7 l) = rowMax P)
    (x : S1x512x128.Idx) : run.sl.v703 c i M0 f0 ft x = Gc c M0 f0 P ((Rect.unit (s := S1x512x3840) ![0, 0, 2304] S1x512x128.size inb_S1x512x3840_S1x512x128_0_0_2304).emb x) := by
  idx_vars x
  have h : run.sl.v703 c i M0 f0 ft (ix3 0 x1 x2) = code (run.sl.v665_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v665_lo_at]
  rw [gc_emb c M0 f0 P inb_S1x512x3840_S1x512x128_0_0_2304 x1 x2 ⟨2304 + x2.val, by omega⟩ rfl]
  unfold gc
  refine congrArg (fun z => code z _) ?_
  exact (lwin_even _ P x1 ⟨1024 + x2.val, by omega⟩).symm.trans (congrArg (lwin _ P x1) (Fin.ext (by show 1280 + (1024 + x2.val) = 2304 + x2.val; omega)))
/-- The codes stored at columns 3584. -/
theorem v716_at (P : Fin 1280 → EReal) (hP : ∀ k : Fin 1280, tl c i fs (ix3 7 1 k) = P k) (hQ : ∀ l : Fin 128, run.sl.v85 c i ft (ix2 7 l) = rowMax P)
    (x : S1x512x128.Idx) : run.sl.v716 c i M0 f0 ft x = Gc c M0 f0 P ((Rect.unit (s := S1x512x3840) ![0, 0, 3584] S1x512x128.size inb_S1x512x3840_S1x512x128_0_0_3584).emb x) := by
  idx_vars x
  have h : run.sl.v716 c i M0 f0 ft (ix3 0 x1 x2) = code (run.sl.v665_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v665_hi_at]
  rw [gc_emb c M0 f0 P inb_S1x512x3840_S1x512x128_0_0_3584 x1 x2 ⟨3584 + x2.val, by omega⟩ rfl]
  unfold gc
  refine congrArg (fun z => code z _) ?_
  exact (lwin_odd _ P x1 ⟨1024 + x2.val, by omega⟩).symm.trans (congrArg (lwin _ P x1) (Fin.ext (by show 2560 + (1024 + x2.val) = 3584 + x2.val; omega)))

theorem v719_lo_at (r : Fin 512) (l : Fin 128) : run.sl.v719_lo c M0 f0 (ix2 r l) = xb c M0 f0 ⟨2 * r.val, by omega⟩ ⟨1152 + l.val, by omega⟩ := by
  rw [← v69_at]; pointwise [run.sl.v719_lo]
theorem v719_hi_at (r : Fin 512) (l : Fin 128) : run.sl.v719_hi c M0 f0 (ix2 r l) = xb c M0 f0 ⟨2 * r.val + 1, by omega⟩ ⟨1152 + l.val, by omega⟩ := by
  rw [← v69_at]; pointwise [run.sl.v719_hi]
theorem v720_raw_at (a : Fin 8) (s : Fin 2) (l : Fin 128) : run.sl.v720_raw c i fs (ix3 a s l) = tl c i fs (ix3 a s ⟨1152 + l.val, by omega⟩) := by
  unfold run.sl.v720_raw tl
  simp only [View.readAt_eq_ld]
  pointwise
/-- Chunk 9 of the rows before the even rows. -/
theorem v723_hi_at (P : Fin 1280 → EReal) (hP : ∀ k : Fin 1280, tl c i fs (ix3 7 1 k) = P k) (r : Fin 512) (l : Fin 128) :
    run.sl.v723_hi c i M0 f0 fs (ix2 r l) = prevRow (xb c M0 f0) P r ⟨1152 + l.val, by omega⟩ := by
  have h : run.sl.v723_hi c i M0 f0 fs (ix2 r l) = if h : (8 + r.val + 520 - 1) % 520 < 8 then run.sl.v720_raw c i fs (ix3 ⟨(8 + r.val + 520 - 1) % 520, h⟩ 1 l)
      else run.sl.v69 c M0 f0 (ix2 ⟨2 * ((8 + r.val + 520 - 1) % 520 - 8) + 1, by omega⟩ l) := by
    pointwise [run.sl.v723_hi, run.sl.v722_hi, run.sl.v721_hi, run.sl.v720_hi, run.sl.v719_hi]
  rw [h]
  unfold prevRow
  by_cases hr : r.val = 0
  · rw [dif_pos (by omega), dif_pos hr, show (⟨(8 + r.val + 520 - 1) % 520, by omega⟩ : Fin 8) = 7 from Fin.ext (by show (8 + r.val + 520 - 1) % 520 = 7; omega), v720_raw_at, hP]
  · rw [dif_neg (by omega), dif_neg hr, v69_at]
    exact congrArg (fun a => xb c M0 f0 a _) (Fin.ext (by show 2 * ((8 + r.val + 520 - 1) % 520 - 8) + 1 = 2 * r.val - 1; omega))
/-- The codes stored at columns 1152. -/
theorem v744_at (P : Fin 1280 → EReal) (hP : ∀ k : Fin 1280, tl c i fs (ix3 7 1 k) = P k) (hQ : ∀ l : Fin 128, run.sl.v85 c i ft (ix2 7 l) = rowMax P)
    (x : S1x512x128.Idx) : run.sl.v744 c i M0 f0 fs ft x = Gc c M0 f0 P ((Rect.unit (s := S1x512x3840) ![0, 0, 1152] S1x512x128.size inb_S1x512x3840_S1x512x128_0_0_1152).emb x) := by
  idx_vars x
  have h : run.sl.v744 c i M0 f0 fs ft (ix3 0 x1 x2) = code (run.sl.v723_hi c i M0 f0 fs (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v723_hi_at c i M0 f0 fs P hP]
  rw [gc_emb c M0 f0 P inb_S1x512x3840_S1x512x128_0_0_1152 x1 x2 ⟨1152 + x2.val, by omega⟩ rfl]
  unfold gc
  refine congrArg (fun z => code z _) ?_
  exact (lwin_prev _ P x1 ⟨1152 + x2.val, by omega⟩).symm.trans (congrArg (lwin _ P x1) (Fin.ext (by show 1152 + x2.val = 1152 + x2.val; omega)))
/-- The codes stored at columns 2432. -/
theorem v757_at (P : Fin 1280 → EReal) (hP : ∀ k : Fin 1280, tl c i fs (ix3 7 1 k) = P k) (hQ : ∀ l : Fin 128, run.sl.v85 c i ft (ix2 7 l) = rowMax P)
    (x : S1x512x128.Idx) : run.sl.v757 c i M0 f0 ft x = Gc c M0 f0 P ((Rect.unit (s := S1x512x3840) ![0, 0, 2432] S1x512x128.size inb_S1x512x3840_S1x512x128_0_0_2432).emb x) := by
  idx_vars x
  have h : run.sl.v757 c i M0 f0 ft (ix3 0 x1 x2) = code (run.sl.v719_lo c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v719_lo_at]
  rw [gc_emb c M0 f0 P inb_S1x512x3840_S1x512x128_0_0_2432 x1 x2 ⟨2432 + x2.val, by omega⟩ rfl]
  unfold gc
  refine congrArg (fun z => code z _) ?_
  exact (lwin_even _ P x1 ⟨1152 + x2.val, by omega⟩).symm.trans (congrArg (lwin _ P x1) (Fin.ext (by show 1280 + (1152 + x2.val) = 2432 + x2.val; omega)))
/-- The codes stored at columns 3712. -/
theorem v770_at (P : Fin 1280 → EReal) (hP : ∀ k : Fin 1280, tl c i fs (ix3 7 1 k) = P k) (hQ : ∀ l : Fin 128, run.sl.v85 c i ft (ix2 7 l) = rowMax P)
    (x : S1x512x128.Idx) : run.sl.v770 c i M0 f0 ft x = Gc c M0 f0 P ((Rect.unit (s := S1x512x3840) ![0, 0, 3712] S1x512x128.size inb_S1x512x3840_S1x512x128_0_0_3712).emb x) := by
  idx_vars x
  have h : run.sl.v770 c i M0 f0 ft (ix3 0 x1 x2) = code (run.sl.v719_hi c M0 f0 (ix2 x1 x2)) (run.sl.v150 c i M0 f0 ft (ix2 x1 x2)) :=
    clip_at c i M0 f0 ft _ (ix2 x1 x2)
  obtain rfl : x0 = 0 := Subsingleton.elim _ _
  refine h.trans ?_
  rw [v150_at c i M0 f0 ft P hQ, v719_hi_at]
  rw [gc_emb c M0 f0 P inb_S1x512x3840_S1x512x128_0_0_3712 x1 x2 ⟨3712 + x2.val, by omega⟩ rfl]
  unfold gc
  refine congrArg (fun z => code z _) ?_
  exact (lwin_odd _ P x1 ⟨1152 + x2.val, by omega⟩).symm.trans (congrArg (lwin _ P x1) (Fin.ext (by show 2560 + (1152 + x2.val) = 3712 + x2.val; omega)))

end Cert.Proof.IRun

end
-- ==== Proof.ITail.lean ====
module

public import proofs.«01_k».proof.Proof.IRun
public import proofs.«01_k».proof.Proof.ICodesA
public import proofs.«01_k».proof.Proof.ICodesB
public import Idealize.ShloMosaic.Lib.Pipeline.ValueKit
public import Idealize.ShloMosaic.Lib.Pointwise

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords) (M0 : Memref sig .tc .vmem S1x1024x1280 .bf16) (f0 : Bf (F := Ideal) c M0)
  (fs : Bf (F := Ideal) c (Memref.whole cc0_scratch0)) (ft : Bf (F := Ideal) c (Memref.whole cc0_scratch1))

/-- The last sixteen rows of the block, in pairs: what the body keeps for the next point. -/
def Tl : FVec Ideal S8x2x1280 .bf16 := fun y => xb c M0 f0 ⟨1008 + 2 * (y 0).val + (y 1).val, by have h0 : (y 0).val < 8 := (y 0).isLt; have h1 : (y 1).val < 2 := (y 1).isLt; omega⟩ (y 2)

/-- Pairs of rows laid one after the other, read back. -/
theorem Tl_emb (col : Nat) (inb : ∀ a, (![0, 0, col] : Fin 3 → Nat) a + S8x2x128.size a ≤ S8x2x1280.size a) (a : Fin 8) (e : Fin 2) (l : Fin 128) (j : Fin 1280) (hj : j.val = col + l.val) :
    Tl c M0 f0 ((Rect.unit (s := S8x2x1280) ![0, 0, col] S8x2x128.size inb).emb (ix3 a e l)) = xb c M0 f0 ⟨1008 + 2 * a.val + e.val, by omega⟩ j := by
  unfold Tl
  have e0 : (((Rect.unit (s := S8x2x1280) ![0, 0, col] S8x2x128.size inb).emb (ix3 a e l)) 0 : Nat) = a.val := by
    rw [ValueKit.rect_emb_unit_val]; exact Nat.zero_add _
  have e1 : (((Rect.unit (s := S8x2x1280) ![0, 0, col] S8x2x128.size inb).emb (ix3 a e l)) 1 : Nat) = e.val := by
    rw [ValueKit.rect_emb_unit_val]; exact Nat.zero_add _
  have e2 : (((Rect.unit (s := S8x2x1280) ![0, 0, col] S8x2x128.size inb).emb (ix3 a e l)) 2 : Nat) = col + l.val := by
    rw [ValueKit.rect_emb_unit_val]; rfl
  have h1 : (⟨1008 + 2 * (((Rect.unit (s := S8x2x1280) ![0, 0, col] S8x2x128.size inb).emb (ix3 a e l)) 0).val + (((Rect.unit (s := S8x2x1280) ![0, 0, col] S8x2x128.size inb).emb (ix3 a e l)) 1).val, by rw [e0, e1]; omega⟩ : Fin 1024)
      = ⟨1008 + 2 * a.val + e.val, by omega⟩ := Fin.ext (by show 1008 + 2 * _ + _ = _; rw [e0, e1])
  exact congrArg₂ (xb c M0 f0) h1 (Fin.ext (e2.trans hj.symm))

/-- The rows kept of columns 0 to 127. -/
theorem w2_at (x : S8x2x128.Idx) : run.sl.k0_w2 c M0 f0 x = Tl c M0 f0 ((Rect.unit (s := S8x2x1280) ![0, 0, 0] S8x2x128.size inb_S8x2x1280_S8x2x128_0_0_0).emb x) := by
  idx_vars x
  rw [Tl_emb c M0 f0 0 inb_S8x2x1280_S8x2x128_0_0_0 x0 x1 x2 ⟨0 + x2.val, by omega⟩ rfl]
  have h : run.sl.k0_w2 c M0 f0 (ix3 x0 x1 x2) = if x1.val % 2 = 0 then run.sl.v233_lo c M0 f0 (ix2 ⟨504 + x0.val, by omega⟩ x2) else run.sl.v233_hi c M0 f0 (ix2 ⟨504 + x0.val, by omega⟩ x2) := by
    pointwise [run.sl.k0_w2, run.sl.v238_lo, run.sl.v238_hi]
  rw [h, v233_lo_at c M0 f0, v233_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 128 to 255. -/
theorem w3_at (x : S8x2x128.Idx) : run.sl.k0_w3 c M0 f0 x = Tl c M0 f0 ((Rect.unit (s := S8x2x1280) ![0, 0, 128] S8x2x128.size inb_S8x2x1280_S8x2x128_0_0_128).emb x) := by
  idx_vars x
  rw [Tl_emb c M0 f0 128 inb_S8x2x1280_S8x2x128_0_0_128 x0 x1 x2 ⟨128 + x2.val, by omega⟩ rfl]
  have h : run.sl.k0_w3 c M0 f0 (ix3 x0 x1 x2) = if x1.val % 2 = 0 then run.sl.v287_lo c M0 f0 (ix2 ⟨504 + x0.val, by omega⟩ x2) else run.sl.v287_hi c M0 f0 (ix2 ⟨504 + x0.val, by omega⟩ x2) := by
    pointwise [run.sl.k0_w3, run.sl.v292_lo, run.sl.v292_hi]
  rw [h, v287_lo_at c M0 f0, v287_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 256 to 383. -/
theorem w4_at (x : S8x2x128.Idx) : run.sl.k0_w4 c M0 f0 x = Tl c M0 f0 ((Rect.unit (s := S8x2x1280) ![0, 0, 256] S8x2x128.size inb_S8x2x1280_S8x2x128_0_0_256).emb x) := by
  idx_vars x
  rw [Tl_emb c M0 f0 256 inb_S8x2x1280_S8x2x128_0_0_256 x0 x1 x2 ⟨256 + x2.val, by omega⟩ rfl]
  have h : run.sl.k0_w4 c M0 f0 (ix3 x0 x1 x2) = if x1.val % 2 = 0 then run.sl.v341_lo c M0 f0 (ix2 ⟨504 + x0.val, by omega⟩ x2) else run.sl.v341_hi c M0 f0 (ix2 ⟨504 + x0.val, by omega⟩ x2) := by
    pointwise [run.sl.k0_w4, run.sl.v346_lo, run.sl.v346_hi]
  rw [h, v341_lo_at c M0 f0, v341_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 384 to 511. -/
theorem w5_at (x : S8x2x128.Idx) : run.sl.k0_w5 c M0 f0 x = Tl c M0 f0 ((Rect.unit (s := S8x2x1280) ![0, 0, 384] S8x2x128.size inb_S8x2x1280_S8x2x128_0_0_384).emb x) := by
  idx_vars x
  rw [Tl_emb c M0 f0 384 inb_S8x2x1280_S8x2x128_0_0_384 x0 x1 x2 ⟨384 + x2.val, by omega⟩ rfl]
  have h : run.sl.k0_w5 c M0 f0 (ix3 x0 x1 x2) = if x1.val % 2 = 0 then run.sl.v395_lo c M0 f0 (ix2 ⟨504 + x0.val, by omega⟩ x2) else run.sl.v395_hi c M0 f0 (ix2 ⟨504 + x0.val, by omega⟩ x2) := by
    pointwise [run.sl.k0_w5, run.sl.v400_lo, run.sl.v400_hi]
  rw [h, v395_lo_at c M0 f0, v395_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 512 to 639. -/
theorem w6_at (x : S8x2x128.Idx) : run.sl.k0_w6 c M0 f0 x = Tl c M0 f0 ((Rect.unit (s := S8x2x1280) ![0, 0, 512] S8x2x128.size inb_S8x2x1280_S8x2x128_0_0_512).emb x) := by
  idx_vars x
  rw [Tl_emb c M0 f0 512 inb_S8x2x1280_S8x2x128_0_0_512 x0 x1 x2 ⟨512 + x2.val, by omega⟩ rfl]
  have h : run.sl.k0_w6 c M0 f0 (ix3 x0 x1 x2) = if x1.val % 2 = 0 then run.sl.v449_lo c M0 f0 (ix2 ⟨504 + x0.val, by omega⟩ x2) else run.sl.v449_hi c M0 f0 (ix2 ⟨504 + x0.val, by omega⟩ x2) := by
    pointwise [run.sl.k0_w6, run.sl.v454_lo, run.sl.v454_hi]
  rw [h, v449_lo_at c M0 f0, v449_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 640 to 767. -/
theorem w7_at (x : S8x2x128.Idx) : run.sl.k0_w7 c M0 f0 x = Tl c M0 f0 ((Rect.unit (s := S8x2x1280) ![0, 0, 640] S8x2x128.size inb_S8x2x1280_S8x2x128_0_0_640).emb x) := by
  idx_vars x
  rw [Tl_emb c M0 f0 640 inb_S8x2x1280_S8x2x128_0_0_640 x0 x1 x2 ⟨640 + x2.val, by omega⟩ rfl]
  have h : run.sl.k0_w7 c M0 f0 (ix3 x0 x1 x2) = if x1.val % 2 = 0 then run.sl.v503_lo c M0 f0 (ix2 ⟨504 + x0.val, by omega⟩ x2) else run.sl.v503_hi c M0 f0 (ix2 ⟨504 + x0.val, by omega⟩ x2) := by
    pointwise [run.sl.k0_w7, run.sl.v508_lo, run.sl.v508_hi]
  rw [h, v503_lo_at c M0 f0, v503_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 768 to 895. -/
theorem w8_at (x : S8x2x128.Idx) : run.sl.k0_w8 c M0 f0 x = Tl c M0 f0 ((Rect.unit (s := S8x2x1280) ![0, 0, 768] S8x2x128.size inb_S8x2x1280_S8x2x128_0_0_768).emb x) := by
  idx_vars x
  rw [Tl_emb c M0 f0 768 inb_S8x2x1280_S8x2x128_0_0_768 x0 x1 x2 ⟨768 + x2.val, by omega⟩ rfl]
  have h : run.sl.k0_w8 c M0 f0 (ix3 x0 x1 x2) = if x1.val % 2 = 0 then run.sl.v557_lo c M0 f0 (ix2 ⟨504 + x0.val, by omega⟩ x2) else run.sl.v557_hi c M0 f0 (ix2 ⟨504 + x0.val, by omega⟩ x2) := by
    pointwise [run.sl.k0_w8, run.sl.v562_lo, run.sl.v562_hi]
  rw [h, v557_lo_at c M0 f0, v557_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 896 to 1023. -/
theorem w9_at (x : S8x2x128.Idx) : run.sl.k0_w9 c M0 f0 x = Tl c M0 f0 ((Rect.unit (s := S8x2x1280) ![0, 0, 896] S8x2x128.size inb_S8x2x1280_S8x2x128_0_0_896).emb x) := by
  idx_vars x
  rw [Tl_emb c M0 f0 896 inb_S8x2x1280_S8x2x128_0_0_896 x0 x1 x2 ⟨896 + x2.val, by omega⟩ rfl]
  have h : run.sl.k0_w9 c M0 f0 (ix3 x0 x1 x2) = if x1.val % 2 = 0 then run.sl.v611_lo c M0 f0 (ix2 ⟨504 + x0.val, by omega⟩ x2) else run.sl.v611_hi c M0 f0 (ix2 ⟨504 + x0.val, by omega⟩ x2) := by
    pointwise [run.sl.k0_w9, run.sl.v616_lo, run.sl.v616_hi]
  rw [h, v611_lo_at c M0 f0, v611_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 1024 to 1151. -/
theorem w10_at (x : S8x2x128.Idx) : run.sl.k0_w10 c M0 f0 x = Tl c M0 f0 ((Rect.unit (s := S8x2x1280) ![0, 0, 1024] S8x2x128.size inb_S8x2x1280_S8x2x128_0_0_1024).emb x) := by
  idx_vars x
  rw [Tl_emb c M0 f0 1024 inb_S8x2x1280_S8x2x128_0_0_1024 x0 x1 x2 ⟨1024 + x2.val, by omega⟩ rfl]
  have h : run.sl.k0_w10 c M0 f0 (ix3 x0 x1 x2) = if x1.val % 2 = 0 then run.sl.v665_lo c M0 f0 (ix2 ⟨504 + x0.val, by omega⟩ x2) else run.sl.v665_hi c M0 f0 (ix2 ⟨504 + x0.val, by omega⟩ x2) := by
    pointwise [run.sl.k0_w10, run.sl.v670_lo, run.sl.v670_hi]
  rw [h, v665_lo_at c M0 f0, v665_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows kept of columns 1152 to 1279. -/
theorem w11_at (x : S8x2x128.Idx) : run.sl.k0_w11 c M0 f0 x = Tl c M0 f0 ((Rect.unit (s := S8x2x1280) ![0, 0, 1152] S8x2x128.size inb_S8x2x1280_S8x2x128_0_0_1152).emb x) := by
  idx_vars x
  rw [Tl_emb c M0 f0 1152 inb_S8x2x1280_S8x2x128_0_0_1152 x0 x1 x2 ⟨1152 + x2.val, by omega⟩ rfl]
  have h : run.sl.k0_w11 c M0 f0 (ix3 x0 x1 x2) = if x1.val % 2 = 0 then run.sl.v719_lo c M0 f0 (ix2 ⟨504 + x0.val, by omega⟩ x2) else run.sl.v719_hi c M0 f0 (ix2 ⟨504 + x0.val, by omega⟩ x2) := by
    pointwise [run.sl.k0_w11, run.sl.v724_lo, run.sl.v724_hi]
  rw [h, v719_lo_at c M0 f0, v719_hi_at c M0 f0]
  split
  · exact congrArg₂ (xb c M0 f0) (Fin.ext (by show 2 * (504 + x0.val) = 1008 + 2 * x0.val + x1.val; omega)) rfl
  · exact congrArg₂ (xb c M0 f0) (Fin.ext (by show 2 * (504 + x0.val) + 1 = 1008 + 2 * x0.val + x1.val; omega)) rfl

/-- The rows the body keeps. -/
theorem tail_at (g : Bf (F := Ideal) c (Memref.whole cc0_scratch0)) (y : S8x2x1280.Idx) :
    (Memref.whole cc0_scratch0).view.read (Elt Ideal) ((Memref.whole cc0_scratch0).view.writes (Elt Ideal) g (run.sl.Hs_10 c M0 f0)) y = Tl c M0 f0 y := by
  unfold run.sl.Hs_10 run.sl.Hs_9 run.sl.Hs_8 run.sl.Hs_7 run.sl.Hs_6 run.sl.Hs_5 run.sl.Hs_4 run.sl.Hs_3 run.sl.Hs_2 run.sl.Hs_1
  refine View.read_writes_apply_of_pieces (Memref.whole cc0_scratch0).view g (Tl c M0 f0) _ ?_ y (View.cover_of_tiledL _ ![8, 2, 128] (by rfl) y)
  refine List.forall_mem_cons.2 ⟨w11_at c M0 f0, ?_⟩
  refine List.forall_mem_cons.2 ⟨w10_at c M0 f0, ?_⟩
  refine List.forall_mem_cons.2 ⟨w9_at c M0 f0, ?_⟩
  refine List.forall_mem_cons.2 ⟨w8_at c M0 f0, ?_⟩
  refine List.forall_mem_cons.2 ⟨w7_at c M0 f0, ?_⟩
  refine List.forall_mem_cons.2 ⟨w6_at c M0 f0, ?_⟩
  refine List.forall_mem_cons.2 ⟨w5_at c M0 f0, ?_⟩
  refine List.forall_mem_cons.2 ⟨w4_at c M0 f0, ?_⟩
  refine List.forall_mem_cons.2 ⟨w3_at c M0 f0, ?_⟩
  refine List.forall_mem_cons.2 ⟨w2_at c M0 f0, ?_⟩
  exact fun p hp => absurd hp List.not_mem_nil

/-- A block read whole is read where it is. -/
theorem emb_whole2 (inb : ∀ a, (![0, 0] : Fin 2 → Nat) a + S8x128.size a ≤ S8x128.size a) (x : S8x128.Idx) :
    (Rect.unit (s := S8x128) ![0, 0] S8x128.size inb).emb x = x :=
  funext fun a => Fin.ext (by
    rw [ValueKit.rect_emb_unit_val]
    match a with
    | 0 => exact Nat.zero_add _
    | 1 => exact Nat.zero_add _)

/-- So the maxima stored whole are where they are. -/
theorem v95_emb (x : S8x128.Idx) : run.sl.v95 c M0 f0 x = run.sl.v95 c M0 f0 ((Rect.unit (s := S8x128) ![0, 0] S8x128.size inb_S8x128_S8x128_0_0).emb x) := by
  rw [emb_whole2]

/-- The row maxima the body keeps: the last one is the last row's. -/
theorem tailmax_at (g : Bf (F := Ideal) c (Memref.whole cc0_scratch1)) (l : Fin 128) :
    (Memref.whole cc0_scratch1).view.read (Elt Ideal) ((Memref.whole cc0_scratch1).view.writes (Elt Ideal) g (run.sl.Ht_1 c M0 f0)) (ix2 7 l) = rowMax (xb c M0 f0 ⟨1023, by norm_num⟩) := by
  have h : run.sl.v95 c M0 f0 (ix2 7 l) = run.sl.v81 c M0 f0 (ix1 ⟨511, by norm_num⟩) := by
    pointwise [run.sl.v95, run.sl.v92, run.sl.v84, run.sl.v83, run.sl.v82]
  rw [v81_at] at h
  have hp : ∀ p ∈ run.sl.Ht_1 c M0 f0, ∀ x : p.1.shape.Idx, p.2 x = run.sl.v95 c M0 f0 (p.1.emb x) := by
    unfold run.sl.Ht_1
    intro p hp x
    obtain rfl := List.mem_singleton.1 hp
    dsimp only at x ⊢
    exact v95_emb c M0 f0 x
  exact (View.read_writes_apply_of_pieces (Memref.whole cc0_scratch1).view g (run.sl.v95 c M0 f0) _ hp (ix2 7 l) (View.cover_of_tiledL _ ![8, 128] (by rfl) _)).trans h

/-- What the next point reads of the kept rows' pairs: nothing at a batch's start, else what was kept. -/
theorem v32_iff : ∀ i : grid0.Coords, run.sl.v32 i = 1#1 ↔ (i 0).val % 16 = 0 := by
  decide +kernel

/-- Whether the point is the first of all. -/
theorem v29_iff : ∀ i : grid0.Coords, run.sl.v29 i = 1#1 ↔ (i 0).val = 0 := by
  decide +kernel

/-- At a batch's first tile the kept rows are zero. -/
theorem tl_first (h : (i 0).val % 16 = 0) (k : Fin 1280) : tl c i fs (ix3 7 1 k) = 0 := by
  unfold tl
  rw [dif_pos ((v32_iff i).2 h)]
  rw [View.read_writes_apply_of_pieces (Memref.whole cc0_scratch0).view fs (fun _ => (0 : EReal)) _ ?_ (ix3 7 1 k) (View.cover_of_tiledL _ ![8, 2, 1280] (by rfl) _)]
  refine List.forall_mem_cons.2 ⟨fun x => ?_, fun p hp => absurd hp List.not_mem_nil⟩
  idx_vars x
  show run.sl.k0_w1 (F := Ideal) (ix3 x0 x1 x2) = 0
  pointwise [run.sl.k0_w1]

/-- Past it they are what the last point kept. -/
theorem tl_later (h : (i 0).val % 16 ≠ 0) : tl c i fs = (Memref.whole cc0_scratch0).view.read (Elt Ideal) fs := by
  unfold tl
  rw [dif_neg fun hh => h ((v32_iff i).1 hh)]

/-- Zeros. -/
def zt : FVec Ideal S8x128 .f32 := fun _ => (0 : EReal)

/-- The same of the kept maxima: zero at a batch's start, -/
theorem v85_first (h : (i 0).val % 16 = 0) (l : Fin 128) : run.sl.v85 c i ft (ix2 7 l) = (0 : EReal) := by
  have hz : ∀ y, (Memref.whole cc0_scratch1).view.read (Elt Ideal) ((Memref.whole cc0_scratch1).view.writes (Elt Ideal) ft [⟨Rect.unit (s := S8x128) ![0, 0] S8x128.size inb_S8x128_S8x128_0_0, run.sl.v994 (F := Ideal)⟩]) y = (0 : EReal) := by
    intro y
    rw [View.read_writes_apply_of_pieces (Memref.whole cc0_scratch1).view ft zt _ ?_ y (View.cover_of_tiledL _ ![8, 128] (by rfl) _)]
    · rfl
    · refine List.forall_mem_cons.2 ⟨fun x => ?_, fun p hp => absurd hp List.not_mem_nil⟩
      idx_vars x
      show run.sl.v994 (F := Ideal) (ix2 x0 x1) = 0
      pointwise [run.sl.v994, run.sl.v991, run.sl.cst_425]
  unfold run.sl.v85
  rw [dif_pos ((v32_iff i).2 h), View.readAt_apply]
  exact hz _

/-- else what was kept. -/
theorem v85_later (h : (i 0).val % 16 ≠ 0) (l : Fin 128) : run.sl.v85 c i ft (ix2 7 l) = (Memref.whole cc0_scratch1).view.read (Elt Ideal) ft (ix2 7 l) := by
  unfold run.sl.v85
  rw [dif_neg fun hh => h ((v32_iff i).1 hh), View.readAt_eq_ld]
  pointwise

end Cert.Proof.IRun

end
-- ==== Proof.IScale.lean ====
module

public import proofs.«01_k».proof.Proof.IRun
public import proofs.«01_k».proof.Proof.IRows
public import Idealize.ShloMosaic.Lib.Pipeline.ValueKit
public import Idealize.ShloMosaic.Lib.Pointwise

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords) (M0 : Memref sig .tc .vmem S1x1024x1280 .bf16) (M6 : Memref sig .tc .vmem S2x8192 .f32)
  (f0 : Bf (F := Ideal) c M0) (f6 : Bf (F := Ideal) c M6)
  (fs : Bf (F := Ideal) c (Memref.whole cc0_scratch0)) (ft : Bf (F := Ideal) c (Memref.whole cc0_scratch1))

/-- The batch a point works on, as the body counts it. -/
theorem v16_at : ∀ i : grid0.Coords, run.sl.v16 i = BitVec.ofNat 32 ((i 0).val / 16) := by
  decide +kernel

/-- Where a point's four pieces of the scale row begin. -/
theorem off_at : ∀ i : grid0.Coords, ∀ g : Fin 4, k0_off1 i (BitVec.ofNat 32 (128 * g.val)) 0 = 0
    ∧ k0_off1 i (BitVec.ofNat 32 (128 * g.val)) 1 = 512 * ((i 0).val % 16) + 128 * g.val := by
  decide +kernel

/-- The scale window as the point's stores find it: cleared at the first point, else as it was. -/
def s6 : FVec Ideal S2x8192 .f32 := M6.view.read (Elt Ideal) (if hc : run.sl.v29 i = 1#1 then M6.view.writes (Elt Ideal) f6 [⟨Rect.unit ![0, 0] S2x8192.size inb_S2x8192_S2x8192_0_0, run.sl.v987 (F := Ideal)⟩] else f6)

/-- The scale of one window row of the point. -/
def gs (P : Fin 1280 → EReal) (r : Fin 512) : EReal := kscale (scaled (rowMax (lwin (xb c M0 f0) P r)))

/-- The scale window after the point: its own 512 places set, every other place as it was. -/
def Gs (P : Fin 1280 → EReal) : FVec Ideal S2x8192 .f32 := fun y =>
  if (y 0).val = (i 0).val / 16 ∧ (y 1).val / 512 = (i 0).val % 16 then gs c M0 f0 P ⟨(y 1).val % 512, Nat.mod_lt _ (by norm_num)⟩ else s6 c i M6 f6 y

/-- A sum over one column of a matrix that is zero off the diagonal. -/
theorem diag_sum (f : Fin 128 → EReal) (l : Fin 128) :
    (∑ x : Fin 128, Scalar.select (IntOp.cmpi .eq (BitVec.ofNat 32 x.val) (BitVec.ofNat 32 l.val)) (f x) 0) = f l := by
  rw [Finset.sum_eq_single l]
  · simp [IntOp.cmpi, Scalar.select]
  · intro x _ hx
    have : ¬ (BitVec.ofNat 32 x.val = BitVec.ofNat 32 l.val) := by
      intro h
      have h2 := congrArg BitVec.toNat h
      simp only [BitVec.toNat_ofNat] at h2
      exact hx (Fin.ext (by omega))
    have hb : (BitVec.ofNat 32 x.val == BitVec.ofNat 32 l.val) = false := beq_eq_false_iff_ne.2 this
    simp only [IntOp.cmpi, Scalar.select, hb]; rfl
  · intro h; exact absurd (Finset.mem_univ l) h

/-- Choosing by the batch row. -/
theorem row_select (a : Fin 2) (u v : EReal) :
    Scalar.select (IntOp.cmpi .eq (BitVec.ofNat 32 a.val) (run.sl.v16 i)) u v = if a.val = (i 0).val / 16 then u else v := by
  have hi : (i 0).val < 32 := (i 0).isLt
  rw [v16_at]
  by_cases h : a.val = (i 0).val / 16
  · rw [if_pos h, h]; simp [IntOp.cmpi, Scalar.select]
  · have : ¬ (BitVec.ofNat 32 a.val = BitVec.ofNat 32 ((i 0).val / 16)) := by
      intro h'
      have h2 := congrArg BitVec.toNat h'
      simp only [BitVec.toNat_ofNat] at h2
      omega
    rw [if_neg h]
    have hb : (BitVec.ofNat 32 a.val == BitVec.ofNat 32 ((i 0).val / 16)) = false := beq_eq_false_iff_ne.2 this
    simp only [IntOp.cmpi, Scalar.select, hb]; rfl

/-- What a piece beginning at `512 t + 128 g` must hold for it to agree with the window after the point. -/
theorem Gs_emb (P : Fin 1280 → EReal) (g : Fin 4) (off : Fin 2 → Nat) (inb : ∀ a, off a + S2x128.size a ≤ S2x8192.size a)
    (h0 : off 0 = 0) (h1 : off 1 = 512 * ((i 0).val % 16) + 128 * g.val) (a : Fin 2) (l : Fin 128) :
    Gs c i M0 M6 f0 f6 P ((Rect.unit (s := S2x8192) off S2x128.size inb).emb (ix2 a l))
      = if a.val = (i 0).val / 16 then gs c M0 f0 P ⟨128 * g.val + l.val, by omega⟩ else s6 c i M6 f6 ((Rect.unit (s := S2x8192) off S2x128.size inb).emb (ix2 a l)) := by
  have e0 : (((Rect.unit (s := S2x8192) off S2x128.size inb).emb (ix2 a l)) 0 : Nat) = a.val := by
    rw [ValueKit.rect_emb_unit_val, h0]; exact Nat.zero_add _
  have e1 : (((Rect.unit (s := S2x8192) off S2x128.size inb).emb (ix2 a l)) 1 : Nat) = 512 * ((i 0).val % 16) + 128 * g.val + l.val := by
    rw [ValueKit.rect_emb_unit_val, h1]; rfl
  unfold Gs
  by_cases h : a.val = (i 0).val / 16
  · rw [if_pos h, if_pos ⟨by rw [e0, h], by rw [e1]; omega⟩]
    exact congrArg (gs c M0 f0 P) (Fin.ext (by show _ % 512 = 128 * g.val + l.val; rw [e1]; omega))
  · rw [if_neg h, if_neg (by rw [e0]; exact fun hh => h hh.1)]

/-- Scales 0 to 127 of the point, read off the diagonal. -/
theorem v159_at (P : Fin 1280 → EReal) (hQ : ∀ l : Fin 128, run.sl.v85 c i ft (ix2 7 l) = rowMax P) (l : Fin 128) :
    run.sl.v159 c i M0 f0 ft (ix1 l) = gs c M0 f0 P ⟨128 * (0 : Fin 4).val + l.val, by show 128 * 0 + _ < 512; omega⟩ := by
  have h : run.sl.v159 c i M0 f0 ft (ix1 l) = ∑ x : Fin 128, Scalar.select (IntOp.cmpi .eq (BitVec.ofNat 32 x.val) (BitVec.ofNat 32 l.val)) (run.sl.v145 c i M0 f0 ft (ix2 ⟨0 + x.val, by omega⟩ l)) (Ideal.ofBits .f32 0#32) := by
    pointwise [run.sl.v159, run.sl.v158, run.sl.v157, run.sl.v152, run.sl.v153, run.sl.v156, run.sl.cst_425]
  rw [h, Ideal.ofBits_zero_f32, diag_sum (fun x => run.sl.v145 c i M0 f0 ft (ix2 ⟨0 + x.val, by omega⟩ l)) l]
  exact v145_at c i M0 f0 ft P hQ ⟨0 + l.val, by omega⟩ l

/-- The piece stored there agrees with the window after the point. -/
theorem v171_at (P : Fin 1280 → EReal) (hQ : ∀ l : Fin 128, run.sl.v85 c i ft (ix2 7 l) = rowMax P) (x : S2x128.Idx) :
    run.sl.v171 c i M0 M6 f0 f6 ft x = Gs c i M0 M6 f0 f6 P ((Rect.unit (s := S2x8192) (k0_off1 i 0#32) S2x128.size (k0_off1_inb i 0)).emb x) := by
  idx_vars x
  rw [Gs_emb c i M0 M6 f0 f6 P 0 (k0_off1 i 0#32) (k0_off1_inb i 0) (off_at i 0).1 (off_at i 0).2 x0 x1, ← v159_at c i M0 f0 ft P hQ x1, ← row_select]
  have h : run.sl.v171 c i M0 M6 f0 f6 ft (ix2 x0 x1) = Scalar.select (IntOp.cmpi .eq (BitVec.ofNat 32 x0.val) (run.sl.v16 i)) (run.sl.v159 c i M0 f0 ft (ix1 x1)) (run.sl.v167 c i M6 f6 (ix2 x0 x1)) := by
    pointwise [run.sl.v171, run.sl.v165, run.sl.v164, run.sl.v154, run.sl.v170, run.sl.v169, run.sl.v160, run.sl.v168]
  rw [h]
  rfl

/-- Scales 128 to 255 of the point, read off the diagonal. -/
theorem v178_at (P : Fin 1280 → EReal) (hQ : ∀ l : Fin 128, run.sl.v85 c i ft (ix2 7 l) = rowMax P) (l : Fin 128) :
    run.sl.v178 c i M0 f0 ft (ix1 l) = gs c M0 f0 P ⟨128 * (1 : Fin 4).val + l.val, by show 128 * 1 + _ < 512; omega⟩ := by
  have h : run.sl.v178 c i M0 f0 ft (ix1 l) = ∑ x : Fin 128, Scalar.select (IntOp.cmpi .eq (BitVec.ofNat 32 x.val) (BitVec.ofNat 32 l.val)) (run.sl.v145 c i M0 f0 ft (ix2 ⟨128 + x.val, by omega⟩ l)) (Ideal.ofBits .f32 0#32) := by
    pointwise [run.sl.v178, run.sl.v177, run.sl.v157, run.sl.v152, run.sl.v153, run.sl.v175, run.sl.cst_425]
  rw [h, Ideal.ofBits_zero_f32, diag_sum (fun x => run.sl.v145 c i M0 f0 ft (ix2 ⟨128 + x.val, by omega⟩ l)) l]
  exact v145_at c i M0 f0 ft P hQ ⟨128 + l.val, by omega⟩ l

/-- The piece stored there agrees with the window after the point. -/
theorem v190_at (P : Fin 1280 → EReal) (hQ : ∀ l : Fin 128, run.sl.v85 c i ft (ix2 7 l) = rowMax P) (x : S2x128.Idx) :
    run.sl.v190 c i M0 M6 f0 f6 ft x = Gs c i M0 M6 f0 f6 P ((Rect.unit (s := S2x8192) (k0_off1 i 128#32) S2x128.size (k0_off1_inb i 1)).emb x) := by
  idx_vars x
  rw [Gs_emb c i M0 M6 f0 f6 P 1 (k0_off1 i 128#32) (k0_off1_inb i 1) (off_at i 1).1 (off_at i 1).2 x0 x1, ← v178_at c i M0 f0 ft P hQ x1, ← row_select]
  have h : run.sl.v190 c i M0 M6 f0 f6 ft (ix2 x0 x1) = Scalar.select (IntOp.cmpi .eq (BitVec.ofNat 32 x0.val) (run.sl.v16 i)) (run.sl.v178 c i M0 f0 ft (ix1 x1)) (run.sl.v186 c i M6 f6 (ix2 x0 x1)) := by
    pointwise [run.sl.v190, run.sl.v165, run.sl.v164, run.sl.v154, run.sl.v189, run.sl.v188, run.sl.v179, run.sl.v187]
  rw [h]
  rfl

/-- Scales 256 to 383 of the point, read off the diagonal. -/
theorem v197_at (P : Fin 1280 → EReal) (hQ : ∀ l : Fin 128, run.sl.v85 c i ft (ix2 7 l) = rowMax P) (l : Fin 128) :
    run.sl.v197 c i M0 f0 ft (ix1 l) = gs c M0 f0 P ⟨128 * (2 : Fin 4).val + l.val, by show 128 * 2 + _ < 512; omega⟩ := by
  have h : run.sl.v197 c i M0 f0 ft (ix1 l) = ∑ x : Fin 128, Scalar.select (IntOp.cmpi .eq (BitVec.ofNat 32 x.val) (BitVec.ofNat 32 l.val)) (run.sl.v145 c i M0 f0 ft (ix2 ⟨256 + x.val, by omega⟩ l)) (Ideal.ofBits .f32 0#32) := by
    pointwise [run.sl.v197, run.sl.v196, run.sl.v157, run.sl.v152, run.sl.v153, run.sl.v194, run.sl.cst_425]
  rw [h, Ideal.ofBits_zero_f32, diag_sum (fun x => run.sl.v145 c i M0 f0 ft (ix2 ⟨256 + x.val, by omega⟩ l)) l]
  exact v145_at c i M0 f0 ft P hQ ⟨256 + l.val, by omega⟩ l

/-- The piece stored there agrees with the window after the point. -/
theorem v209_at (P : Fin 1280 → EReal) (hQ : ∀ l : Fin 128, run.sl.v85 c i ft (ix2 7 l) = rowMax P) (x : S2x128.Idx) :
    run.sl.v209 c i M0 M6 f0 f6 ft x = Gs c i M0 M6 f0 f6 P ((Rect.unit (s := S2x8192) (k0_off1 i 256#32) S2x128.size (k0_off1_inb i 2)).emb x) := by
  idx_vars x
  rw [Gs_emb c i M0 M6 f0 f6 P 2 (k0_off1 i 256#32) (k0_off1_inb i 2) (off_at i 2).1 (off_at i 2).2 x0 x1, ← v197_at c i M0 f0 ft P hQ x1, ← row_select]
  have h : run.sl.v209 c i M0 M6 f0 f6 ft (ix2 x0 x1) = Scalar.select (IntOp.cmpi .eq (BitVec.ofNat 32 x0.val) (run.sl.v16 i)) (run.sl.v197 c i M0 f0 ft (ix1 x1)) (run.sl.v205 c i M6 f6 (ix2 x0 x1)) := by
    pointwise [run.sl.v209, run.sl.v165, run.sl.v164, run.sl.v154, run.sl.v208, run.sl.v207, run.sl.v198, run.sl.v206]
  rw [h]
  rfl

/-- Scales 384 to 511 of the point, read off the diagonal. -/
theorem v216_at (P : Fin 1280 → EReal) (hQ : ∀ l : Fin 128, run.sl.v85 c i ft (ix2 7 l) = rowMax P) (l : Fin 128) :
    run.sl.v216 c i M0 f0 ft (ix1 l) = gs c M0 f0 P ⟨128 * (3 : Fin 4).val + l.val, by show 128 * 3 + _ < 512; omega⟩ := by
  have h : run.sl.v216 c i M0 f0 ft (ix1 l) = ∑ x : Fin 128, Scalar.select (IntOp.cmpi .eq (BitVec.ofNat 32 x.val) (BitVec.ofNat 32 l.val)) (run.sl.v145 c i M0 f0 ft (ix2 ⟨384 + x.val, by omega⟩ l)) (Ideal.ofBits .f32 0#32) := by
    pointwise [run.sl.v216, run.sl.v215, run.sl.v157, run.sl.v152, run.sl.v153, run.sl.v213, run.sl.cst_425]
  rw [h, Ideal.ofBits_zero_f32, diag_sum (fun x => run.sl.v145 c i M0 f0 ft (ix2 ⟨384 + x.val, by omega⟩ l)) l]
  exact v145_at c i M0 f0 ft P hQ ⟨384 + l.val, by omega⟩ l

/-- The piece stored there agrees with the window after the point. -/
theorem v228_at (P : Fin 1280 → EReal) (hQ : ∀ l : Fin 128, run.sl.v85 c i ft (ix2 7 l) = rowMax P) (x : S2x128.Idx) :
    run.sl.v228 c i M0 M6 f0 f6 ft x = Gs c i M0 M6 f0 f6 P ((Rect.unit (s := S2x8192) (k0_off1 i 384#32) S2x128.size (k0_off1_inb i 3)).emb x) := by
  idx_vars x
  rw [Gs_emb c i M0 M6 f0 f6 P 3 (k0_off1 i 384#32) (k0_off1_inb i 3) (off_at i 3).1 (off_at i 3).2 x0 x1, ← v216_at c i M0 f0 ft P hQ x1, ← row_select]
  have h : run.sl.v228 c i M0 M6 f0 f6 ft (ix2 x0 x1) = Scalar.select (IntOp.cmpi .eq (BitVec.ofNat 32 x0.val) (run.sl.v16 i)) (run.sl.v216 c i M0 f0 ft (ix1 x1)) (run.sl.v224 c i M6 f6 (ix2 x0 x1)) := by
    pointwise [run.sl.v228, run.sl.v165, run.sl.v164, run.sl.v154, run.sl.v227, run.sl.v226, run.sl.v217, run.sl.v225]
  rw [h]
  rfl

/-- The scale window the body leaves. -/
theorem scale_at (P : Fin 1280 → EReal) (hQ : ∀ l : Fin 128, run.sl.v85 c i ft (ix2 7 l) = rowMax P) (y : S2x8192.Idx) :
    M6.view.read (Elt Ideal) (M6.view.writes (Elt Ideal) (if hc : run.sl.v29 i = 1#1 then M6.view.writes (Elt Ideal) f6 [⟨Rect.unit ![0, 0] S2x8192.size inb_S2x8192_S2x8192_0_0, run.sl.v987 (F := Ideal)⟩] else f6)
      (run.sl.H6_4 c i M0 M6 f0 f6 ft)) y = Gs c i M0 M6 f0 f6 P y := by
  have hp : ∀ p ∈ run.sl.H6_4 c i M0 M6 f0 f6 ft, ∀ x : p.1.shape.Idx, p.2 x = Gs c i M0 M6 f0 f6 P (p.1.emb x) := by
    unfold run.sl.H6_4 run.sl.H6_2
    refine List.forall_mem_cons.2 ⟨v228_at c i M0 M6 f0 f6 ft P hQ, ?_⟩
    refine List.forall_mem_cons.2 ⟨v209_at c i M0 M6 f0 f6 ft P hQ, ?_⟩
    refine List.forall_mem_cons.2 ⟨v190_at c i M0 M6 f0 f6 ft P hQ, ?_⟩
    refine List.forall_mem_cons.2 ⟨v171_at c i M0 M6 f0 f6 ft P hQ, ?_⟩
    exact fun p hp => absurd hp List.not_mem_nil
  by_cases hy : ∃ p ∈ run.sl.H6_4 c i M0 M6 f0 f6 ft, y ∈ p.1.set
  · exact View.read_writes_apply_of_pieces M6.view _ _ _ hp y hy
  · rw [View.read_writes_apply_of_forall_not_mem M6.view _ y _ fun p hm hy' => hy ⟨p, hm, hy'⟩]
    have hn : ¬ ((y 0).val = (i 0).val / 16 ∧ (y 1).val / 512 = (i 0).val % 16) := by
      rintro ⟨-, h1⟩
      refine hy ?_
      have key : ∀ (g : Fin 4) (h1' : (y 1).val % 512 / 128 = g.val), y ∈ (Rect.unit (s := S2x8192) (k0_off1 i (BitVec.ofNat 32 (128 * g.val))) S2x128.size (k0_off1_inb i g)).set := by
        intro g hg
        rw [Rect.mem_set_unit]
        intro a
        obtain ⟨o0, o1⟩ := off_at i g
        match a with
        | 0 => rw [o0]; exact ⟨Nat.zero_le _, by have := (y 0).isLt; simpa using this⟩
        | 1 => rw [o1]; exact ⟨by omega, by show (y 1).val < _ + 128; omega⟩
      have hlt : (y 1).val % 512 / 128 < 4 := by omega
      unfold run.sl.H6_4 run.sl.H6_2
      obtain hq | hq | hq | hq : (y 1).val % 512 / 128 = 0 ∨ (y 1).val % 512 / 128 = 1 ∨ (y 1).val % 512 / 128 = 2 ∨ (y 1).val % 512 / 128 = 3 := by omega
      · exact ⟨_, List.mem_cons_of_mem _ (List.mem_cons_of_mem _ (List.mem_cons_of_mem _ List.mem_cons_self)), key 0 hq⟩
      · exact ⟨_, List.mem_cons_of_mem _ (List.mem_cons_of_mem _ List.mem_cons_self), key 1 hq⟩
      · exact ⟨_, List.mem_cons_of_mem _ List.mem_cons_self, key 2 hq⟩
      · exact ⟨_, List.mem_cons_self, key 3 hq⟩
    unfold Gs s6
    rw [if_neg hn]

end Cert.Proof.IRun

end
-- ==== Proof.IOut.lean ====
/-
  One grid point of the kernel's ideal form: the whole block of codes, the products with the weights and the block of
  results.
-/
module

public import proofs.«01_k».proof.Proof.ICodesB
public import proofs.«01_k».proof.Proof.Spec
public import Idealize.ShloMosaic.Lib.Pipeline.ValueKit
public import Idealize.ShloMosaic.Lib.Pointwise

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords) (M0 : Memref sig .tc .vmem S1x1024x1280 .bf16) (M1 : Memref sig .tc .vmem S3840x2048 .fp8e4m3)
  (M2 M3 : Memref sig .tc .vmem S1x2048 .f32) (M4 : Memref sig .tc .vmem S1x512x2048 .bf16) (M5 : Memref sig .tc .vmem S1x512x3840 .fp8e4m3)
  (f0 : Bf (F := Ideal) c M0) (f1 : Bf (F := Ideal) c M1) (f2 : Bf (F := Ideal) c M2) (f3 : Bf (F := Ideal) c M3)
  (f4 : Bf (F := Ideal) c M4) (f5 : Bf (F := Ideal) c M5)
  (fs : Bf (F := Ideal) c (Memref.whole cc0_scratch0)) (ft : Bf (F := Ideal) c (Memref.whole cc0_scratch1))
  (P : Fin 1280 → EReal) (hP : ∀ k : Fin 1280, tl c i fs (ix3 7 1 k) = P k) (hQ : ∀ l : Fin 128, run.sl.v85 c i ft (ix2 7 l) = rowMax P)

section
include hP hQ

/-- Every run of codes stored is a run of the block's codes. -/
theorem H5_of : ∀ p ∈ run.sl.H5_30 c i M0 f0 fs ft, ∀ x : p.1.shape.Idx, p.2 x = Gc c M0 f0 P (p.1.emb x) := by
  unfold run.sl.H5_30 run.sl.H5_28 run.sl.H5_26 run.sl.H5_24 run.sl.H5_22 run.sl.H5_20 run.sl.H5_18 run.sl.H5_16 run.sl.H5_14 run.sl.H5_12 run.sl.H5_10 run.sl.H5_8 run.sl.H5_6 run.sl.H5_4 run.sl.H5_2
  refine List.forall_mem_cons.2 ⟨v770_at c i M0 f0 fs ft P hP hQ, ?_⟩
  refine List.forall_mem_cons.2 ⟨v757_at c i M0 f0 fs ft P hP hQ, ?_⟩
  refine List.forall_mem_cons.2 ⟨v744_at c i M0 f0 fs ft P hP hQ, ?_⟩
  refine List.forall_mem_cons.2 ⟨v716_at c i M0 f0 fs ft P hP hQ, ?_⟩
  refine List.forall_mem_cons.2 ⟨v703_at c i M0 f0 fs ft P hP hQ, ?_⟩
  refine List.forall_mem_cons.2 ⟨v690_at c i M0 f0 fs ft P hP hQ, ?_⟩
  refine List.forall_mem_cons.2 ⟨v662_at c i M0 f0 fs ft P hP hQ, ?_⟩
  refine List.forall_mem_cons.2 ⟨v649_at c i M0 f0 fs ft P hP hQ, ?_⟩
  refine List.forall_mem_cons.2 ⟨v636_at c i M0 f0 fs ft P hP hQ, ?_⟩
  refine List.forall_mem_cons.2 ⟨v608_at c i M0 f0 fs ft P hP hQ, ?_⟩
  refine List.forall_mem_cons.2 ⟨v595_at c i M0 f0 fs ft P hP hQ, ?_⟩
  refine List.forall_mem_cons.2 ⟨v582_at c i M0 f0 fs ft P hP hQ, ?_⟩
  refine List.forall_mem_cons.2 ⟨v554_at c i M0 f0 fs ft P hP hQ, ?_⟩
  refine List.forall_mem_cons.2 ⟨v541_at c i M0 f0 fs ft P hP hQ, ?_⟩
  refine List.forall_mem_cons.2 ⟨v528_at c i M0 f0 fs ft P hP hQ, ?_⟩
  refine List.forall_mem_cons.2 ⟨v500_at c i M0 f0 fs ft P hP hQ, ?_⟩
  refine List.forall_mem_cons.2 ⟨v487_at c i M0 f0 fs ft P hP hQ, ?_⟩
  refine List.forall_mem_cons.2 ⟨v474_at c i M0 f0 fs ft P hP hQ, ?_⟩
  refine List.forall_mem_cons.2 ⟨v446_at c i M0 f0 fs ft P hP hQ, ?_⟩
  refine List.forall_mem_cons.2 ⟨v433_at c i M0 f0 fs ft P hP hQ, ?_⟩
  refine List.forall_mem_cons.2 ⟨v420_at c i M0 f0 fs ft P hP hQ, ?_⟩
  refine List.forall_mem_cons.2 ⟨v392_at c i M0 f0 fs ft P hP hQ, ?_⟩
  refine List.forall_mem_cons.2 ⟨v379_at c i M0 f0 fs ft P hP hQ, ?_⟩
  refine List.forall_mem_cons.2 ⟨v366_at c i M0 f0 fs ft P hP hQ, ?_⟩
  refine List.forall_mem_cons.2 ⟨v338_at c i M0 f0 fs ft P hP hQ, ?_⟩
  refine List.forall_mem_cons.2 ⟨v325_at c i M0 f0 fs ft P hP hQ, ?_⟩
  refine List.forall_mem_cons.2 ⟨v312_at c i M0 f0 fs ft P hP hQ, ?_⟩
  refine List.forall_mem_cons.2 ⟨v284_at c i M0 f0 fs ft P hP hQ, ?_⟩
  refine List.forall_mem_cons.2 ⟨v271_at c i M0 f0 fs ft P hP hQ, ?_⟩
  refine List.forall_mem_cons.2 ⟨v258_at c i M0 f0 fs ft P hP hQ, ?_⟩
  exact fun p hp => absurd hp List.not_mem_nil

/-- The block of codes the body leaves. -/
theorem codes_at (g : Bf (F := Ideal) c M5) (y : S1x512x3840.Idx) :
    M5.view.read (Elt Ideal) (M5.view.writes (Elt Ideal) g (run.sl.H5_30 c i M0 f0 fs ft)) y = Gc c M0 f0 P y :=
  View.read_writes_apply_of_pieces M5.view g (Gc c M0 f0 P) _ (H5_of c i M0 f0 fs ft P hP hQ) y
    (View.cover_of_tiledL _ ![1, 512, 128] (by rfl) y)

/-- The codes the body reads back. -/
theorem v772_at (r : Fin 512) (j : Fin 3840) : run.sl.v772 c i M0 M5 f0 fs ft (ix2 r j) = gc c M0 f0 P r j := by
  have h : run.sl.v772 c i M0 M5 f0 fs ft (ix2 r j) = run.sl.v771 c i M0 M5 f0 fs ft (ix3 0 r j) := by
    pointwise [run.sl.v772]
  have h2 : run.sl.v771 c i M0 M5 f0 fs ft (ix3 0 r j) = M5.view.read (Elt Ideal) (M5.view.writes (Elt Ideal) M5.view.junk (run.sl.H5_30 c i M0 f0 fs ft)) (ix3 0 r j) := by
    unfold run.sl.v771 View.readCov
    simp only [View.readAt_eq_ld]
    pointwise
  rw [h, h2, codes_at c i M0 M5 f0 fs ft P hP hQ]; rfl

end

/-- The weights and the columns' scales and biases the body reads. -/
def wb (j : Fin 3840) (n : Fin 2048) : EReal := M1.view.read (Elt Ideal) f1 (ix2 j n)
def sb (n : Fin 2048) : EReal := M2.view.read (Elt Ideal) f2 (ix2 0 n)

/-- A block's product. -/
theorem mm_at (A : FVec Ideal S512x3840 .fp8e4m3) (B : FVec Ideal S3840x256 .fp8e4m3) (r : Fin 512) (n : Fin 256) :
    matmul dot_S512x3840_S3840x256_S512x256_1_0_0_1_n_n none A B run.sl.cst_302 (ix2 r n) = ∑ j : Fin 3840, A (ix2 r j) * B (ix2 j n) := by
  pointwise [run.sl.cst_302]

/-- A block's results from its product, its scales and its biases. -/
theorem gelu_at (A : FVec Ideal S512x256 .f32) (ws b : FVec Ideal S1x256 .f32) (r : Fin 512) (n : Fin 256) :
    (fun z : FVec Ideal S512x256 .f32 => shapeCast S1x512x256 (truncf .bf16 (addf (mulf z run.sl.v789) (mulf (mulf z run.sl.v789) (erf z))) bitsLt_bf16_f32) shapeCasts_S512x256_S1x512x256 (ix3 0 r n))
      (addf (mulf (mulf A (run.sl.v775 c i M0 f0 ft)) (broadcastTo S512x256 (mulf ws run.sl.v779) broadcasts_S1x256_S512x256)) (broadcastTo S512x256 (mulf b run.sl.v779) broadcasts_S1x256_S512x256))
    = kgelu (A (ix2 r n)) (run.sl.v775 c i M0 f0 ft (ix2 r n)) (ws (ix2 0 n)) (b (ix2 0 n)) := by
  unfold kgelu
  have hs : run.sl.cst_305 (F := Ideal) = sqh := rfl
  pointwise [run.sl.v789, run.sl.v779]
  rw [hs]
  rfl

theorem v775_at (hQ : ∀ l : Fin 128, run.sl.v85 c i ft (ix2 7 l) = rowMax P) (r : Fin 512) (n : Fin 256) : run.sl.v775 c i M0 f0 ft (ix2 r n) = kscale (scaled (rowMax (lwin (xb c M0 f0) P r))) := by
  have h : run.sl.v775 c i M0 f0 ft (ix2 r n) = if h : n.val < 128 then run.sl.v145 c i M0 f0 ft (ix2 r ⟨n.val, h⟩) else run.sl.v145 c i M0 f0 ft (ix2 r ⟨n.val - 128, by omega⟩) := by
    pointwise [run.sl.v775]
  rw [h]
  split_ifs <;> rw [v145_at c i M0 f0 ft P hQ]

/-- A block's result at an index. -/
def go (r : Fin 512) (n : Fin 2048) : EReal :=
  kgelu (∑ j : Fin 3840, gc c M0 f0 P r j * wb c M1 f1 j n) (kscale (scaled (rowMax (lwin (xb c M0 f0) P r)))) (sb c M2 f2 n) (sb c M3 f3 n)
def Go : FVec Ideal S1x512x2048 .bf16 := fun y => go c M0 M1 M2 M3 f0 f1 f2 f3 P (y 1) (y 2)

theorem go_emb {col : Nat} (inb : ∀ a, (![0, 0, col] : Fin 3 → Nat) a + S1x512x256.size a ≤ S1x512x2048.size a) (r : Fin 512) (l : Fin 256)
    (j : Fin 2048) (hj : j.val = col + l.val) :
    Go c M0 M1 M2 M3 f0 f1 f2 f3 P ((Rect.unit (s := S1x512x2048) ![0, 0, col] S1x512x256.size inb).emb (ix3 0 r l)) = go c M0 M1 M2 M3 f0 f1 f2 f3 P r j := by
  unfold Go
  refine congrArg₂ (go c M0 M1 M2 M3 f0 f1 f2 f3 P) (Fin.ext ?_) (Fin.ext ?_)
  · rw [ValueKit.rect_emb_unit_val]; show 0 + r.val = r.val; omega
  · rw [ValueKit.rect_emb_unit_val, hj]; rfl

/-- The results stored at columns 0. -/
theorem v797_at (hP : ∀ k : Fin 1280, tl c i fs (ix3 7 1 k) = P k) (hQ : ∀ l : Fin 128, run.sl.v85 c i ft (ix2 7 l) = rowMax P)
    (x : S1x512x256.Idx) : run.sl.v797 c i M0 M1 M2 M3 M5 f0 f1 f2 f3 fs ft x
      = Go c M0 M1 M2 M3 f0 f1 f2 f3 P ((Rect.unit (s := S1x512x2048) ![0, 0, 0] S1x512x256.size inb_S1x512x2048_S1x512x256_0_0_0).emb x) := by
  idx_vars x
  obtain rfl : x0 = 0 := Subsingleton.elim _ _
  refine (gelu_at c i M0 f0 ft (run.sl.v774 c i M0 M1 M5 f0 f1 fs ft) (run.sl.v778 c M2 f2) (run.sl.v784 c M3 f3) x1 x2).trans ?_
  rw [go_emb c M0 M1 M2 M3 f0 f1 f2 f3 P inb_S1x512x2048_S1x512x256_0_0_0 x1 x2 ⟨0 + x2.val, by omega⟩ rfl, v775_at c i M0 f0 ft P hQ]
  have h1 : run.sl.v774 c i M0 M1 M5 f0 f1 fs ft (ix2 x1 x2) = ∑ j : Fin 3840, gc c M0 f0 P x1 j * wb c M1 f1 j ⟨0 + x2.val, by omega⟩ := by
    unfold run.sl.v774
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v778 c M2 f2 (ix2 0 x2) = sb c M2 f2 ⟨0 + x2.val, by omega⟩ := by
    unfold run.sl.v778 sb
    simp only [View.readAt_eq_ld]
    pointwise
  have h3 : run.sl.v784 c M3 f3 (ix2 0 x2) = sb c M3 f3 ⟨0 + x2.val, by omega⟩ := by
    unfold run.sl.v784 sb
    simp only [View.readAt_eq_ld]
    pointwise
  rw [h1, h2, h3]; rfl
/-- The results stored at columns 256. -/
theorem v824_at (hP : ∀ k : Fin 1280, tl c i fs (ix3 7 1 k) = P k) (hQ : ∀ l : Fin 128, run.sl.v85 c i ft (ix2 7 l) = rowMax P)
    (x : S1x512x256.Idx) : run.sl.v824 c i M0 M1 M2 M3 M5 f0 f1 f2 f3 fs ft x
      = Go c M0 M1 M2 M3 f0 f1 f2 f3 P ((Rect.unit (s := S1x512x2048) ![0, 0, 256] S1x512x256.size inb_S1x512x2048_S1x512x256_0_0_256).emb x) := by
  idx_vars x
  obtain rfl : x0 = 0 := Subsingleton.elim _ _
  refine (gelu_at c i M0 f0 ft (run.sl.v801 c i M0 M1 M5 f0 f1 fs ft) (run.sl.v805 c M2 f2) (run.sl.v811 c M3 f3) x1 x2).trans ?_
  rw [go_emb c M0 M1 M2 M3 f0 f1 f2 f3 P inb_S1x512x2048_S1x512x256_0_0_256 x1 x2 ⟨256 + x2.val, by omega⟩ rfl, v775_at c i M0 f0 ft P hQ]
  have h1 : run.sl.v801 c i M0 M1 M5 f0 f1 fs ft (ix2 x1 x2) = ∑ j : Fin 3840, gc c M0 f0 P x1 j * wb c M1 f1 j ⟨256 + x2.val, by omega⟩ := by
    unfold run.sl.v801
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v805 c M2 f2 (ix2 0 x2) = sb c M2 f2 ⟨256 + x2.val, by omega⟩ := by
    unfold run.sl.v805 sb
    simp only [View.readAt_eq_ld]
    pointwise
  have h3 : run.sl.v811 c M3 f3 (ix2 0 x2) = sb c M3 f3 ⟨256 + x2.val, by omega⟩ := by
    unfold run.sl.v811 sb
    simp only [View.readAt_eq_ld]
    pointwise
  rw [h1, h2, h3]; rfl
/-- The results stored at columns 512. -/
theorem v851_at (hP : ∀ k : Fin 1280, tl c i fs (ix3 7 1 k) = P k) (hQ : ∀ l : Fin 128, run.sl.v85 c i ft (ix2 7 l) = rowMax P)
    (x : S1x512x256.Idx) : run.sl.v851 c i M0 M1 M2 M3 M5 f0 f1 f2 f3 fs ft x
      = Go c M0 M1 M2 M3 f0 f1 f2 f3 P ((Rect.unit (s := S1x512x2048) ![0, 0, 512] S1x512x256.size inb_S1x512x2048_S1x512x256_0_0_512).emb x) := by
  idx_vars x
  obtain rfl : x0 = 0 := Subsingleton.elim _ _
  refine (gelu_at c i M0 f0 ft (run.sl.v828 c i M0 M1 M5 f0 f1 fs ft) (run.sl.v832 c M2 f2) (run.sl.v838 c M3 f3) x1 x2).trans ?_
  rw [go_emb c M0 M1 M2 M3 f0 f1 f2 f3 P inb_S1x512x2048_S1x512x256_0_0_512 x1 x2 ⟨512 + x2.val, by omega⟩ rfl, v775_at c i M0 f0 ft P hQ]
  have h1 : run.sl.v828 c i M0 M1 M5 f0 f1 fs ft (ix2 x1 x2) = ∑ j : Fin 3840, gc c M0 f0 P x1 j * wb c M1 f1 j ⟨512 + x2.val, by omega⟩ := by
    unfold run.sl.v828
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v832 c M2 f2 (ix2 0 x2) = sb c M2 f2 ⟨512 + x2.val, by omega⟩ := by
    unfold run.sl.v832 sb
    simp only [View.readAt_eq_ld]
    pointwise
  have h3 : run.sl.v838 c M3 f3 (ix2 0 x2) = sb c M3 f3 ⟨512 + x2.val, by omega⟩ := by
    unfold run.sl.v838 sb
    simp only [View.readAt_eq_ld]
    pointwise
  rw [h1, h2, h3]; rfl
/-- The results stored at columns 768. -/
theorem v878_at (hP : ∀ k : Fin 1280, tl c i fs (ix3 7 1 k) = P k) (hQ : ∀ l : Fin 128, run.sl.v85 c i ft (ix2 7 l) = rowMax P)
    (x : S1x512x256.Idx) : run.sl.v878 c i M0 M1 M2 M3 M5 f0 f1 f2 f3 fs ft x
      = Go c M0 M1 M2 M3 f0 f1 f2 f3 P ((Rect.unit (s := S1x512x2048) ![0, 0, 768] S1x512x256.size inb_S1x512x2048_S1x512x256_0_0_768).emb x) := by
  idx_vars x
  obtain rfl : x0 = 0 := Subsingleton.elim _ _
  refine (gelu_at c i M0 f0 ft (run.sl.v855 c i M0 M1 M5 f0 f1 fs ft) (run.sl.v859 c M2 f2) (run.sl.v865 c M3 f3) x1 x2).trans ?_
  rw [go_emb c M0 M1 M2 M3 f0 f1 f2 f3 P inb_S1x512x2048_S1x512x256_0_0_768 x1 x2 ⟨768 + x2.val, by omega⟩ rfl, v775_at c i M0 f0 ft P hQ]
  have h1 : run.sl.v855 c i M0 M1 M5 f0 f1 fs ft (ix2 x1 x2) = ∑ j : Fin 3840, gc c M0 f0 P x1 j * wb c M1 f1 j ⟨768 + x2.val, by omega⟩ := by
    unfold run.sl.v855
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v859 c M2 f2 (ix2 0 x2) = sb c M2 f2 ⟨768 + x2.val, by omega⟩ := by
    unfold run.sl.v859 run.sl.r sb
    simp only [View.readAt_eq_ld]
    pointwise
  have h3 : run.sl.v865 c M3 f3 (ix2 0 x2) = sb c M3 f3 ⟨768 + x2.val, by omega⟩ := by
    unfold run.sl.v865 sb
    simp only [View.readAt_eq_ld]
    pointwise
  rw [h1, h2, h3]; rfl
/-- The results stored at columns 1024. -/
theorem v905_at (hP : ∀ k : Fin 1280, tl c i fs (ix3 7 1 k) = P k) (hQ : ∀ l : Fin 128, run.sl.v85 c i ft (ix2 7 l) = rowMax P)
    (x : S1x512x256.Idx) : run.sl.v905 c i M0 M1 M2 M3 M5 f0 f1 f2 f3 fs ft x
      = Go c M0 M1 M2 M3 f0 f1 f2 f3 P ((Rect.unit (s := S1x512x2048) ![0, 0, 1024] S1x512x256.size inb_S1x512x2048_S1x512x256_0_0_1024).emb x) := by
  idx_vars x
  obtain rfl : x0 = 0 := Subsingleton.elim _ _
  refine (gelu_at c i M0 f0 ft (run.sl.v882 c i M0 M1 M5 f0 f1 fs ft) (run.sl.v886 c M2 f2) (run.sl.v892 c M3 f3) x1 x2).trans ?_
  rw [go_emb c M0 M1 M2 M3 f0 f1 f2 f3 P inb_S1x512x2048_S1x512x256_0_0_1024 x1 x2 ⟨1024 + x2.val, by omega⟩ rfl, v775_at c i M0 f0 ft P hQ]
  have h1 : run.sl.v882 c i M0 M1 M5 f0 f1 fs ft (ix2 x1 x2) = ∑ j : Fin 3840, gc c M0 f0 P x1 j * wb c M1 f1 j ⟨1024 + x2.val, by omega⟩ := by
    unfold run.sl.v882
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v886 c M2 f2 (ix2 0 x2) = sb c M2 f2 ⟨1024 + x2.val, by omega⟩ := by
    unfold run.sl.v886 sb
    simp only [View.readAt_eq_ld]
    pointwise
  have h3 : run.sl.v892 c M3 f3 (ix2 0 x2) = sb c M3 f3 ⟨1024 + x2.val, by omega⟩ := by
    unfold run.sl.v892 sb
    simp only [View.readAt_eq_ld]
    pointwise
  rw [h1, h2, h3]; rfl
/-- The results stored at columns 1280. -/
theorem v932_at (hP : ∀ k : Fin 1280, tl c i fs (ix3 7 1 k) = P k) (hQ : ∀ l : Fin 128, run.sl.v85 c i ft (ix2 7 l) = rowMax P)
    (x : S1x512x256.Idx) : run.sl.v932 c i M0 M1 M2 M3 M5 f0 f1 f2 f3 fs ft x
      = Go c M0 M1 M2 M3 f0 f1 f2 f3 P ((Rect.unit (s := S1x512x2048) ![0, 0, 1280] S1x512x256.size inb_S1x512x2048_S1x512x256_0_0_1280).emb x) := by
  idx_vars x
  obtain rfl : x0 = 0 := Subsingleton.elim _ _
  refine (gelu_at c i M0 f0 ft (run.sl.v909 c i M0 M1 M5 f0 f1 fs ft) (run.sl.v913 c M2 f2) (run.sl.v919 c M3 f3) x1 x2).trans ?_
  rw [go_emb c M0 M1 M2 M3 f0 f1 f2 f3 P inb_S1x512x2048_S1x512x256_0_0_1280 x1 x2 ⟨1280 + x2.val, by omega⟩ rfl, v775_at c i M0 f0 ft P hQ]
  have h1 : run.sl.v909 c i M0 M1 M5 f0 f1 fs ft (ix2 x1 x2) = ∑ j : Fin 3840, gc c M0 f0 P x1 j * wb c M1 f1 j ⟨1280 + x2.val, by omega⟩ := by
    unfold run.sl.v909
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v913 c M2 f2 (ix2 0 x2) = sb c M2 f2 ⟨1280 + x2.val, by omega⟩ := by
    unfold run.sl.v913 sb
    simp only [View.readAt_eq_ld]
    pointwise
  have h3 : run.sl.v919 c M3 f3 (ix2 0 x2) = sb c M3 f3 ⟨1280 + x2.val, by omega⟩ := by
    unfold run.sl.v919 sb
    simp only [View.readAt_eq_ld]
    pointwise
  rw [h1, h2, h3]; rfl
/-- The results stored at columns 1536. -/
theorem v959_at (hP : ∀ k : Fin 1280, tl c i fs (ix3 7 1 k) = P k) (hQ : ∀ l : Fin 128, run.sl.v85 c i ft (ix2 7 l) = rowMax P)
    (x : S1x512x256.Idx) : run.sl.v959 c i M0 M1 M2 M3 M5 f0 f1 f2 f3 fs ft x
      = Go c M0 M1 M2 M3 f0 f1 f2 f3 P ((Rect.unit (s := S1x512x2048) ![0, 0, 1536] S1x512x256.size inb_S1x512x2048_S1x512x256_0_0_1536).emb x) := by
  idx_vars x
  obtain rfl : x0 = 0 := Subsingleton.elim _ _
  refine (gelu_at c i M0 f0 ft (run.sl.v936 c i M0 M1 M5 f0 f1 fs ft) (run.sl.v940 c M2 f2) (run.sl.v946 c M3 f3) x1 x2).trans ?_
  rw [go_emb c M0 M1 M2 M3 f0 f1 f2 f3 P inb_S1x512x2048_S1x512x256_0_0_1536 x1 x2 ⟨1536 + x2.val, by omega⟩ rfl, v775_at c i M0 f0 ft P hQ]
  have h1 : run.sl.v936 c i M0 M1 M5 f0 f1 fs ft (ix2 x1 x2) = ∑ j : Fin 3840, gc c M0 f0 P x1 j * wb c M1 f1 j ⟨1536 + x2.val, by omega⟩ := by
    unfold run.sl.v936
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v940 c M2 f2 (ix2 0 x2) = sb c M2 f2 ⟨1536 + x2.val, by omega⟩ := by
    unfold run.sl.v940 sb
    simp only [View.readAt_eq_ld]
    pointwise
  have h3 : run.sl.v946 c M3 f3 (ix2 0 x2) = sb c M3 f3 ⟨1536 + x2.val, by omega⟩ := by
    unfold run.sl.v946 sb
    simp only [View.readAt_eq_ld]
    pointwise
  rw [h1, h2, h3]; rfl
/-- The results stored at columns 1792. -/
theorem v986_at (hP : ∀ k : Fin 1280, tl c i fs (ix3 7 1 k) = P k) (hQ : ∀ l : Fin 128, run.sl.v85 c i ft (ix2 7 l) = rowMax P)
    (x : S1x512x256.Idx) : run.sl.v986 c i M0 M1 M2 M3 M5 f0 f1 f2 f3 fs ft x
      = Go c M0 M1 M2 M3 f0 f1 f2 f3 P ((Rect.unit (s := S1x512x2048) ![0, 0, 1792] S1x512x256.size inb_S1x512x2048_S1x512x256_0_0_1792).emb x) := by
  idx_vars x
  obtain rfl : x0 = 0 := Subsingleton.elim _ _
  refine (gelu_at c i M0 f0 ft (run.sl.v963 c i M0 M1 M5 f0 f1 fs ft) (run.sl.v967 c M2 f2) (run.sl.v973 c M3 f3) x1 x2).trans ?_
  rw [go_emb c M0 M1 M2 M3 f0 f1 f2 f3 P inb_S1x512x2048_S1x512x256_0_0_1792 x1 x2 ⟨1792 + x2.val, by omega⟩ rfl, v775_at c i M0 f0 ft P hQ]
  have h1 : run.sl.v963 c i M0 M1 M5 f0 f1 fs ft (ix2 x1 x2) = ∑ j : Fin 3840, gc c M0 f0 P x1 j * wb c M1 f1 j ⟨1792 + x2.val, by omega⟩ := by
    unfold run.sl.v963
    rw [mm_at]
    refine Finset.sum_congr rfl fun j _ => ?_
    rw [v772_at c i M0 M5 f0 fs ft P hP hQ]
    refine congrArg (fun z : EReal => gc c M0 f0 P x1 j * z) ?_
    unfold wb
    simp only [View.readAt_eq_ld]
    pointwise
  have h2 : run.sl.v967 c M2 f2 (ix2 0 x2) = sb c M2 f2 ⟨1792 + x2.val, by omega⟩ := by
    unfold run.sl.v967 sb
    simp only [View.readAt_eq_ld]
    pointwise
  have h3 : run.sl.v973 c M3 f3 (ix2 0 x2) = sb c M3 f3 ⟨1792 + x2.val, by omega⟩ := by
    unfold run.sl.v973 sb
    simp only [View.readAt_eq_ld]
    pointwise
  rw [h1, h2, h3]; rfl

/-- The block of results the body leaves. -/
theorem out_at (hP : ∀ k : Fin 1280, tl c i fs (ix3 7 1 k) = P k) (hQ : ∀ l : Fin 128, run.sl.v85 c i ft (ix2 7 l) = rowMax P)
    (y : S1x512x2048.Idx) :
    M4.view.read (Elt Ideal) (M4.view.writes (Elt Ideal) f4 (⟨Rect.unit (s := S1x512x2048) ![0, 0, 1792] S1x512x256.size inb_S1x512x2048_S1x512x256_0_0_1792, run.sl.v986 c i M0 M1 M2 M3 M5 f0 f1 f2 f3 fs ft⟩
      :: ⟨Rect.unit (s := S1x512x2048) ![0, 0, 1536] S1x512x256.size inb_S1x512x2048_S1x512x256_0_0_1536, run.sl.v959 c i M0 M1 M2 M3 M5 f0 f1 f2 f3 fs ft⟩ :: run.sl.H4_6 c i M0 M1 M2 M3 M5 f0 f1 f2 f3 fs ft)) y
      = Go c M0 M1 M2 M3 f0 f1 f2 f3 P y := by
  refine View.read_writes_apply_of_pieces M4.view f4 (Go c M0 M1 M2 M3 f0 f1 f2 f3 P) _ ?_ y (View.cover_of_tiledL _ ![1, 512, 256] (by rfl) y)
  unfold run.sl.H4_6 run.sl.H4_4 run.sl.H4_3 run.sl.H4_1
  refine List.forall_mem_cons.2 ⟨v986_at c i M0 M1 M2 M3 M5 f0 f1 f2 f3 fs ft P hP hQ, ?_⟩
  refine List.forall_mem_cons.2 ⟨v959_at c i M0 M1 M2 M3 M5 f0 f1 f2 f3 fs ft P hP hQ, ?_⟩
  refine List.forall_mem_cons.2 ⟨v932_at c i M0 M1 M2 M3 M5 f0 f1 f2 f3 fs ft P hP hQ, ?_⟩
  refine List.forall_mem_cons.2 ⟨v905_at c i M0 M1 M2 M3 M5 f0 f1 f2 f3 fs ft P hP hQ, ?_⟩
  refine List.forall_mem_cons.2 ⟨v878_at c i M0 M1 M2 M3 M5 f0 f1 f2 f3 fs ft P hP hQ, ?_⟩
  refine List.forall_mem_cons.2 ⟨v851_at c i M0 M1 M2 M3 M5 f0 f1 f2 f3 fs ft P hP hQ, ?_⟩
  refine List.forall_mem_cons.2 ⟨v824_at c i M0 M1 M2 M3 M5 f0 f1 f2 f3 fs ft P hP hQ, ?_⟩
  refine List.forall_mem_cons.2 ⟨v797_at c i M0 M1 M2 M3 M5 f0 f1 f2 f3 fs ft P hP hQ, ?_⟩
  exact fun p hp => absurd hp List.not_mem_nil

end Cert.Proof.IRun

end
-- ==== Proof.IPoint.lean ====
/-
  One grid point's run, read off: the results, the codes, the scale window, and the rows and row maxima kept for the
  point after it, each as a plain function of the point's blocks and of the row before them.
-/
module

public import proofs.«01_k».proof.Proof.ITail
public import proofs.«01_k».proof.Proof.IScale
public import proofs.«01_k».proof.Proof.IOut

@[expose] public section

set_option maxRecDepth 16384

noncomputable section

namespace Cert.Proof.IRun

open Cert.KernelIdeal Cert.KernelIdeal.Gen Cert.Proof.Spec
open Idealize.ShloMosaic Idealize.ShloMosaic.TcCoe Idealize.SL.Sem

variable (c : Dev nD) (i : grid0.Coords)
    (M0 : Memref sig .tc .vmem S1x1024x1280 .bf16) (h0 : M0.IsWhole) (M1 : Memref sig .tc .vmem S3840x2048 .fp8e4m3) (h1 : M1.IsWhole)
    (M2 : Memref sig .tc .vmem S1x2048 .f32) (h2 : M2.IsWhole) (M3 : Memref sig .tc .vmem S1x2048 .f32) (h3 : M3.IsWhole)
    (M4 : Memref sig .tc .vmem S1x512x2048 .bf16) (h4 : M4.IsWhole) (M5 : Memref sig .tc .vmem S1x512x3840 .fp8e4m3) (h5 : M5.IsWhole)
    (M6 : Memref sig .tc .vmem S2x8192 .f32) (h6 : M6.IsWhole)
    (f0 : Bf (F := Ideal) c M0) (f1 : Bf (F := Ideal) c M1) (f2 : Bf (F := Ideal) c M2) (f3 : Bf (F := Ideal) c M3)
    (f4 : Bf (F := Ideal) c M4) (f5 : Bf (F := Ideal) c M5) (f6 : Bf (F := Ideal) c M6)
    (fs : Bf (F := Ideal) c (Memref.whole cc0_scratch0)) (ft : Bf (F := Ideal) c (Memref.whole cc0_scratch1))

/-- The point's results, -/
theorem run_out (P : Fin 1280 → EReal) (hP : ∀ k : Fin 1280, tl c i fs (ix3 7 1 k) = P k) (hQ : ∀ l : Fin 128, run.sl.v85 c i ft (ix2 7 l) = rowMax P)
    (y : S1x512x2048.Idx) :
    M4.view.read (Elt Ideal) (run c i M0 h0 M1 h1 M2 h2 M3 h3 M4 h4 M5 h5 M6 h6 f0 f1 f2 f3 f4 f5 f6 fs ft).1.1 y = Go c M0 M1 M2 M3 f0 f1 f2 f3 P y := by
  unfold run
  dsimp only
  exact out_at c i M0 M1 M2 M3 M4 M5 f0 f1 f2 f3 f4 fs ft P hP hQ y

/-- its codes, -/
theorem run_codes (P : Fin 1280 → EReal) (hP : ∀ k : Fin 1280, tl c i fs (ix3 7 1 k) = P k) (hQ : ∀ l : Fin 128, run.sl.v85 c i ft (ix2 7 l) = rowMax P)
    (y : S1x512x3840.Idx) :
    M5.view.read (Elt Ideal) (run c i M0 h0 M1 h1 M2 h2 M3 h3 M4 h4 M5 h5 M6 h6 f0 f1 f2 f3 f4 f5 f6 fs ft).1.2.1 y = Gc c M0 f0 P y := by
  unfold run
  dsimp only
  exact codes_at c i M0 M5 f0 fs ft P hP hQ _ y

/-- its scale window, -/
theorem run_scale (P : Fin 1280 → EReal) (hQ : ∀ l : Fin 128, run.sl.v85 c i ft (ix2 7 l) = rowMax P)
    (y : S2x8192.Idx) :
    M6.view.read (Elt Ideal) (run c i M0 h0 M1 h1 M2 h2 M3 h3 M4 h4 M5 h5 M6 h6 f0 f1 f2 f3 f4 f5 f6 fs ft).1.2.2.1 y = Gs c i M0 M6 f0 f6 P y := by
  unfold run
  dsimp only
  exact scale_at c i M0 M6 f0 f6 ft P hQ y

/-- and the rows -/
theorem run_tail (y : S8x2x1280.Idx) :
    (Memref.whole cc0_scratch0).view.read (Elt Ideal) (run c i M0 h0 M1 h1 M2 h2 M3 h3 M4 h4 M5 h5 M6 h6 f0 f1 f2 f3 f4 f5 f6 fs ft).1.2.2.2.1 y = Tl c M0 f0 y := by
  unfold run
  dsimp only
  exact tail_at c M0 f0 _ y

/-- and row maxima it keeps. -/
theorem run_tailmax (l : Fin 128) :
    (Memref.whole cc0_scratch1).view.read (Elt Ideal) (run c i M0 h0 M1 h1 M2 h2 M3 h3 M4 h4 M5 h5 M6 h6 f0 f1 f2 f3 f4 f5 f6 fs ft).1.2.2.2.2 (ix2 7 l) = rowMax (xb c M0 f0 ⟨1023, by norm_num⟩) := by
  unfold run
  dsimp only
  exact tailmax_at c M0 f0 _ l

end Cert.Proof.IRun

end
-- ==== Proof.IBlocks.lean ====
/-
  The blocks of each grid point, over the arrays as launched: which rows, weights, scales and bias a point reads, and
  where its results, codes and scales go.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.IBlocks

open Cert.KernelIdeal Cert.KernelIdeal.Gen Cert.Proof.Spec
open Idealize.ShloMosaic Idealize.ShloMosaic.TcCoe Idealize.SL.Sem

variable (m : (ℓ : Loc nD τ sig) → Buf (Elt Ideal) ℓ) (c : Dev nD)

/-- The activations as launched, -/
def X (b : Fin 2) (a : Fin 16384) (k : Fin 1280) : EReal := (m ((c : Thread nD τ).loc main_arg0) : FVec Ideal S2x16384x1280 .bf16) (ix3 b a k)
/-- the weight codes, -/
def W (j : Fin 3840) (n : Fin 2048) : EReal := (m ((c : Thread nD τ).loc main_arg1) : FVec Ideal S3840x2048 .fp8e4m3) (ix2 j n)
/-- the weights' scales, -/
def Ws (n : Fin 2048) : EReal := (m ((c : Thread nD τ).loc main_arg2) : FVec Ideal S2048 .f32) (ix1 n)
/-- the bias. -/
def Bs (n : Fin 2048) : EReal := (m ((c : Thread nD τ).loc main_arg3) : FVec Ideal S2048 .f32) (ix1 n)

/-- The batch of a point, -/
def bt (t : Fin cfg0.N) : Fin 2 := ⟨t.val / 16, by have : t.val < 32 := t.isLt; omega⟩
/-- its tile, -/
def tt (t : Fin cfg0.N) : Fin 16 := ⟨t.val % 16, by omega⟩
/-- and its coordinate. -/
theorem coord : ∀ t : Fin cfg0.N, (grid0.coords t 0).val = t.val :=
  (by decide +kernel : ∀ t : Fin grid0.N, (grid0.coords t 0).val = t.val)

/-- Where each window's block sits. -/
theorem idx0 : ∀ t : Fin cfg0.N, win0_0.index t = ![t.val / 16, t.val % 16, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![t.val / 16, t.val % 16, 0] :=
  (by decide +kernel : ∀ t : Fin grid0.N, _)
theorem idx5 : ∀ t : Fin cfg0.N, win0_5.index t = ![t.val / 16, t.val % 16, 0] :=
  (by decide +kernel : ∀ t : Fin grid0.N, _)

/-- The scales as the region finds them: the vector as one row. -/
theorem V_v0 : V m c main_v0 = (broadcastInDim S1x2048 ![1] bcast_S2048_S1x2048_1 (m ((c : Thread nD τ).loc main_arg2)) : FVec Ideal S1x2048 .f32) := by
  unfold_abbrev_sides
  after_results
/-- The bias likewise. -/
theorem V_v1 : V m c main_v1 = (broadcastInDim S1x2048 ![1] bcast_S2048_S1x2048_1 (m ((c : Thread nD τ).loc main_arg3)) : FVec Ideal S1x2048 .f32) := by
  unfold_abbrev_sides
  after_results

/-- The block of rows a point reads is its tile. -/
theorem iblk0_at (t : Fin cfg0.N) (a : Fin 1024) (k : Fin 1280) : iblk m c 0 t (ix3 0 a k) = tile (X m c) (bt t) (tt t) a k := by
  blk_simp [iblk]
  rw [V_main_arg0]
  unfold tile X
  refine congrArg (m ((c : Thread nD τ).loc main_arg0)) ?_
  blk_ext [idx0]
  · show t.val / 16 + 0 = t.val / 16; omega
  · show t.val % 16 * 1024 + a.val = 1024 * (t.val % 16) + a.val; omega
/-- The weights' block is the weights, -/
theorem iblk1_at (t : Fin cfg0.N) (j : Fin 3840) (n : Fin 2048) : iblk m c 1 t (ix2 j n) = W m c j n := by
  blk_simp [iblk]
  rw [V_main_arg1]
  unfold W
  refine congrArg (m ((c : Thread nD τ).loc main_arg1)) ?_
  blk_ext [idx1]
/-- the scales' the scales, -/
theorem iblk2_at (t : Fin cfg0.N) (n : Fin 2048) : iblk m c 2 t (ix2 0 n) = Ws m c n := by
  blk_simp [iblk]
  rw [V_v0]
  unfold Ws
  have e : (win0_2.blk t).view.emb (ix2 0 n) = ix2 0 n := by blk_ext [idx2]
  rw [e]
  pointwise
/-- and the bias's the bias. -/
theorem iblk3_at (t : Fin cfg0.N) (n : Fin 2048) : iblk m c 3 t (ix2 0 n) = Bs m c n := by
  blk_simp [iblk]
  rw [V_v1]
  unfold Bs
  have e : (win0_3.blk t).view.emb (ix2 0 n) = ix2 0 n := by blk_ext [idx3]
  rw [e]
  pointwise

end Cert.Proof.IBlocks

end
-- ==== Proof.IStep.lean ====
/-
  One point of the kernel, as the point sees it: from its blocks and what the last point kept, what it leaves in each
  output window and keeps for the next point, named by the whole input.
-/
module

public import proofs.«01_k».proof.Proof.IPoint
public import proofs.«01_k».proof.Proof.IBlocks

@[expose] public section

set_option maxRecDepth 16384

noncomputable section

namespace Cert.Proof.IRun

open Cert.KernelIdeal Cert.KernelIdeal.Gen Cert.Proof.Spec Cert.Proof.IBlocks
open Idealize.ShloMosaic Idealize.ShloMosaic.TcCoe Idealize.SL.Sem

section Window

variable (c : Dev nD) (i : grid0.Coords) (M6 : Memref sig .tc .vmem S2x8192 .f32) (f6 : Bf (F := Ideal) c M6)

/-- Zeros. -/
def z6 : FVec Ideal S2x8192 .f32 := fun _ => (0 : EReal)

/-- The scale window is cleared at the first point, -/
theorem s6_first (h : (i 0).val = 0) (y : S2x8192.Idx) : s6 c i M6 f6 y = (0 : EReal) := by
  unfold s6
  rw [dif_pos ((v29_iff i).2 h)]
  rw [View.read_writes_apply_of_pieces M6.view f6 z6 _ ?_ y (View.cover_of_tiledL _ ![2, 8192] (by rfl) _)]
  · rfl
  · refine List.forall_mem_cons.2 ⟨fun x => ?_, fun p hp => absurd hp List.not_mem_nil⟩
    idx_vars x
    show run.sl.v987 (F := Ideal) (ix2 x0 x1) = 0
    pointwise [run.sl.v987, run.sl.cst_425]

/-- and kept past it. -/
theorem s6_later (h : (i 0).val ≠ 0) : s6 c i M6 f6 = M6.view.read (Elt Ideal) f6 := by
  unfold s6
  rw [dif_neg fun hh => h ((v29_iff i).1 hh)]

end Window

variable (m : (ℓ : Loc nD τ sig) → Buf (Elt Ideal) ℓ) (c : Dev nD)

/-- A row's place in the input, from its place in the point's block. -/
def rowOf (t : Fin cfg0.N) (r : Fin 512) : Fin 8192 := ⟨512 * (tt t).val + r.val, by have := (tt t).isLt; omega⟩

/-- What a point leaves in the result window, -/
def oOut (t : Fin cfg0.N) : FVec Ideal S1x512x2048 .bf16 := fun y => gout (X m c) (W m c) (Ws m c) (Bs m c) (bt t) (rowOf t (y 1)) (y 2)
/-- in the code window, -/
def oCode (t : Fin cfg0.N) : FVec Ideal S1x512x3840 .fp8e4m3 := fun y => gcode (X m c) (bt t) (rowOf t (y 1)) (y 2)
/-- and in the scale window: the scales of every point so far. -/
def oScale (n : Nat) : FVec Ideal S2x8192 .f32 := fun y => if 16 * (y 0).val + (y 1).val / 512 ≤ n then gscale (X m c) (y 0) (y 1) else 0

/-- What is kept before point `n`: the last row of the tile before, and its largest magnitude. -/
def Kept (n : Nat) (fs : Bf (F := Ideal) c (Memref.whole cc0_scratch0)) (ft : Bf (F := Ideal) c (Memref.whole cc0_scratch1)) : Prop :=
  ∀ t : Fin cfg0.N, t.val + 1 = n →
    (∀ k : Fin 1280, (Memref.whole cc0_scratch0).view.read (Elt Ideal) fs (ix3 7 1 k) = tile (X m c) (bt t) (tt t) ⟨1023, by norm_num⟩ k)
    ∧ ∀ l : Fin 128, (Memref.whole cc0_scratch1).view.read (Elt Ideal) ft (ix2 7 l) = rowMax (tile (X m c) (bt t) (tt t) ⟨1023, by norm_num⟩)

/-- The last row of the tile before is the row before the tile. -/
theorem tile_last (t t' : Fin cfg0.N) (h : t'.val + 1 = t.val) (hh : t.val % 16 ≠ 0) :
    tile (X m c) (bt t') (tt t') ⟨1023, by norm_num⟩ = before (X m c) (bt t) (tt t) := by
  funext k
  unfold tile before
  rw [dif_neg (show ¬ ((tt t).val = 0) from hh)]
  refine congrArg₂ (fun b a => X m c b a k) (Fin.ext ?_) (Fin.ext ?_)
  · show t'.val / 16 = t.val / 16; omega
  · show 1024 * (t'.val % 16) + 1023 = 1024 * (t.val % 16) - 1; omega

theorem before_first (t : Fin cfg0.N) (hh : t.val % 16 = 0) : before (X m c) (bt t) (tt t) = fun _ => 0 := by
  funext k
  unfold before
  rw [dif_pos (show (tt t).val = 0 from hh)]

variable (t : Fin cfg0.N) (fs : Bf (F := Ideal) c (Memref.whole cc0_scratch0)) (ft : Bf (F := Ideal) c (Memref.whole cc0_scratch1))

/-- The row before the tile, as the point finds it, -/
theorem kept_row (hK : Kept m c t.val fs ft) (k : Fin 1280) : tl c (grid0.coords t) fs (ix3 7 1 k) = before (X m c) (bt t) (tt t) k := by
  by_cases hh : t.val % 16 = 0
  · rw [tl_first c _ fs (by rw [coord]; exact hh), before_first m c t hh]
  · rw [tl_later c _ fs (by rw [coord]; exact hh)]
    have e : t.val - 1 + 1 = t.val := by omega
    rw [(hK ⟨t.val - 1, by have := t.isLt; omega⟩ e).1 k, tile_last m c t _ e hh]

/-- and its largest magnitude. -/
theorem kept_max (hK : Kept m c t.val fs ft) (l : Fin 128) : run.sl.v85 c (grid0.coords t) ft (ix2 7 l) = rowMax (before (X m c) (bt t) (tt t)) := by
  by_cases hh : t.val % 16 = 0
  · rw [v85_first c _ ft (by rw [coord]; exact hh), before_first m c t hh, rowMax_zero (by norm_num)]
  · rw [v85_later c _ ft (by rw [coord]; exact hh)]
    have e : t.val - 1 + 1 = t.val := by omega
    rw [(hK ⟨t.val - 1, by have := t.isLt; omega⟩ e).2 l, tile_last m c t _ e hh]

variable (M0 : Memref sig .tc .vmem S1x1024x1280 .bf16) (h0 : M0.IsWhole) (M1 : Memref sig .tc .vmem S3840x2048 .fp8e4m3) (h1 : M1.IsWhole)
    (M2 : Memref sig .tc .vmem S1x2048 .f32) (h2 : M2.IsWhole) (M3 : Memref sig .tc .vmem S1x2048 .f32) (h3 : M3.IsWhole)
    (M4 : Memref sig .tc .vmem S1x512x2048 .bf16) (h4 : M4.IsWhole) (M5 : Memref sig .tc .vmem S1x512x3840 .fp8e4m3) (h5 : M5.IsWhole)
    (M6 : Memref sig .tc .vmem S2x8192 .f32) (h6 : M6.IsWhole)
    (f0 : Bf (F := Ideal) c M0) (f1 : Bf (F := Ideal) c M1) (f2 : Bf (F := Ideal) c M2) (f3 : Bf (F := Ideal) c M3)
    (f4 : Bf (F := Ideal) c M4) (f5 : Bf (F := Ideal) c M5) (f6 : Bf (F := Ideal) c M6)

/-- The point's block is its tile. -/
theorem xb_tile (e0 : M0.view.read (Elt Ideal) f0 = iblk m c 0 t) : xb c M0 f0 = tile (X m c) (bt t) (tt t) := by
  funext a k
  unfold xb
  rw [e0]
  exact iblk0_at m c t a k

/-- The point's results, -/
theorem step_out (hK : Kept m c t.val fs ft) (e0 : M0.view.read (Elt Ideal) f0 = iblk m c 0 t) (e1 : M1.view.read (Elt Ideal) f1 = iblk m c 1 t)
    (e2 : M2.view.read (Elt Ideal) f2 = iblk m c 2 t) (e3 : M3.view.read (Elt Ideal) f3 = iblk m c 3 t) :
    M4.view.read (Elt Ideal) (run c (grid0.coords t) M0 h0 M1 h1 M2 h2 M3 h3 M4 h4 M5 h5 M6 h6 f0 f1 f2 f3 f4 f5 f6 fs ft).1.1 = oOut m c t := by
  funext y
  rw [run_out c _ M0 h0 M1 h1 M2 h2 M3 h3 M4 h4 M5 h5 M6 h6 f0 f1 f2 f3 f4 f5 f6 fs ft _ (kept_row m c t fs ft hK) (kept_max m c t fs ft hK)]
  have w1 : ∀ j n, wb c M1 f1 j n = W m c j n := fun j n => by unfold wb; rw [e1]; exact iblk1_at m c t j n
  have w2 : ∀ n, sb c M2 f2 n = Ws m c n := fun n => by unfold sb; rw [e2]; exact iblk2_at m c t n
  have w3 : ∀ n, sb c M3 f3 n = Bs m c n := fun n => by unfold sb; rw [e3]; exact iblk3_at m c t n
  have key : ∀ (r : Fin 512) (n : Fin 2048), go c M0 M1 M2 M3 f0 f1 f2 f3 (before (X m c) (bt t) (tt t)) r n
      = gout (X m c) (W m c) (Ws m c) (Bs m c) (bt t) (rowOf t r) n := fun r n => by
    unfold go gout gcode gscale smax gc
    rw [w2, w3, xb_tile m c t M0 f0 e0, lwin_tile]
    simp only [w1]
    rfl
  exact key (y 1) (y 2)

/-- its codes, -/
theorem step_codes (hK : Kept m c t.val fs ft) (e0 : M0.view.read (Elt Ideal) f0 = iblk m c 0 t) :
    M5.view.read (Elt Ideal) (run c (grid0.coords t) M0 h0 M1 h1 M2 h2 M3 h3 M4 h4 M5 h5 M6 h6 f0 f1 f2 f3 f4 f5 f6 fs ft).1.2.1 = oCode m c t := by
  funext y
  rw [run_codes c _ M0 h0 M1 h1 M2 h2 M3 h3 M4 h4 M5 h5 M6 h6 f0 f1 f2 f3 f4 f5 f6 fs ft _ (kept_row m c t fs ft hK) (kept_max m c t fs ft hK)]
  have key : ∀ (r : Fin 512) (j : Fin 3840), gc c M0 f0 (before (X m c) (bt t) (tt t)) r j = gcode (X m c) (bt t) (rowOf t r) j := fun r j => by
    unfold gcode smax gc
    rw [xb_tile m c t M0 f0 e0, lwin_tile]
    rfl
  exact key (y 1) (y 2)

/-- its scale window, -/
theorem step_scale (hK : Kept m c t.val fs ft) (e0 : M0.view.read (Elt Ideal) f0 = iblk m c 0 t)
    (e6 : t.val ≠ 0 → M6.view.read (Elt Ideal) f6 = oScale m c (t.val - 1)) :
    M6.view.read (Elt Ideal) (run c (grid0.coords t) M0 h0 M1 h1 M2 h2 M3 h3 M4 h4 M5 h5 M6 h6 f0 f1 f2 f3 f4 f5 f6 fs ft).1.2.2.1 = oScale m c t.val := by
  funext y
  rw [run_scale c _ M0 h0 M1 h1 M2 h2 M3 h3 M4 h4 M5 h5 M6 h6 f0 f1 f2 f3 f4 f5 f6 fs ft _ (kept_max m c t fs ft hK)]
  have ht : t.val < 32 := t.isLt
  have y0 : (y 0).val < 2 := (y 0).isLt
  have y1 : (y 1).val < 8192 := (y 1).isLt
  unfold Gs oScale
  rw [coord]
  by_cases hc : (y 0).val = t.val / 16 ∧ (y 1).val / 512 = t.val % 16
  · rw [if_pos hc, if_pos (by omega)]
    unfold gs gscale smax
    rw [xb_tile m c t M0 f0 e0, lwin_tile]
    refine congrArg₂ (fun b r => kscale (scaled (rowMax (win (X m c) b r)))) (Fin.ext ?_) (Fin.ext ?_)
    · exact hc.1.symm
    · show 512 * (t.val % 16) + (y 1).val % 512 = (y 1).val; omega
  · rw [if_neg hc]
    by_cases h0 : t.val = 0
    · rw [s6_first c _ M6 f6 (by rw [coord]; exact h0), if_neg (by omega)]
    · rw [s6_later c _ M6 f6 (by rw [coord]; exact h0), e6 h0]
      unfold oScale
      by_cases hle : 16 * (y 0).val + (y 1).val / 512 ≤ t.val
      · rw [if_pos hle, if_pos (by omega)]
      · rw [if_neg hle, if_neg (by omega)]

/-- and what it keeps. -/
theorem step_kept (e0 : M0.view.read (Elt Ideal) f0 = iblk m c 0 t) :
    Kept m c (t.val + 1) (run c (grid0.coords t) M0 h0 M1 h1 M2 h2 M3 h3 M4 h4 M5 h5 M6 h6 f0 f1 f2 f3 f4 f5 f6 fs ft).1.2.2.2.1
      (run c (grid0.coords t) M0 h0 M1 h1 M2 h2 M3 h3 M4 h4 M5 h5 M6 h6 f0 f1 f2 f3 f4 f5 f6 fs ft).1.2.2.2.2 := by
  intro t' ht
  obtain rfl : t' = t := Fin.ext (Nat.succ.inj ht)
  constructor
  · intro k
    rw [run_tail]
    unfold Tl
    rw [xb_tile m c t' M0 f0 e0]
    rfl
  · intro l
    rw [run_tailmax, xb_tile m c t' M0 f0 e0]

end Cert.Proof.IRun

end
-- ==== Proof.IValue.lean ====
/-
  The kernel's run with its three results named: every execution ends with the results, the codes and the scales that
  the rows of the whole input have, the argument arrays as they were.
-/
module

public import proofs.«01_k».proof.Proof.IStep
public import proofs.«01_k».proof.Proof.IFrame

@[expose] public section

set_option maxRecDepth 16384

noncomputable section

namespace Cert.Proof.IRun

open Cert.KernelIdeal Cert.KernelIdeal.Gen Cert.Proof.Spec Cert.Proof.IBlocks

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- What the body carries from point to point: its two scratch buffers, holding the last row and its largest magnitude. -/
def PhiN (c : Dev nD) (n : Nat) : sProp 𝕄 :=
  iprop((∃ fs ft, ⌜Kept m c n fs ft⌝ ∗ sc c (Memref.whole cc0_scratch0) fs ∗ sc c (Memref.whole cc0_scratch1) ft) ∗ ∃ r, prngReg c r)

/-- The proof data: what each window holds after each point, and what the scratch buffers carry. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oOut m c t
    | ⟨5, _⟩ => oCode m c t
    | ⟨6, _⟩ => oScale m c t.val
  Φ n := PhiN m c n.val
  q _ := fullShare
  owed _ := 0

theorem vA_eq (c : Dev nD) (w : Fin cfg0.W) : (vdats m 0 c).A w = V m c (Pipeline.arrRef spec0 w) := by dsimp only [vdats]
theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = oOut m c t := by dsimp only [vdats]
theorem vafter5 (c : Dev nD) (t : Fin cfg0.N) : (vdats m 0 c).after 5 t = oCode m c t := by dsimp only [vdats]
theorem vafter6 (c : Dev nD) (t : Fin cfg0.N) : (vdats m 0 c).after 6 t = oScale m c t.val := by dsimp only [vdats]
theorem vPhi (c : Dev nD) (n : Fin (cfg0.N + 1)) : (vdats m 0 c).Φ n = PhiN m c n.val := by dsimp only [vdats]

/-- The scale window past the first point is as the point before left it. -/
theorem before6 (c : Dev nD) (t : Fin cfg0.N) (h : t.val ≠ 0) (d) : (vdats m 0 c).before 6 t d = oScale m c (t.val - 1) := by
  have ht : t.val < 32 := t.isLt
  rw [(vdats m 0 c).before_out_kept 6 rfl t h (by
    rw [Bool.eq_false_iff]; intro hf; have := (flush0_6 _).1 hf; dsimp only at this; omega) (fun _ => rfl) (fun _ _ => rfl)]
  rw [vafter6]

/-- The body at any point. -/
theorem vsound_body (c : Dev nD) (t : Fin cfg0.N) :
    iprop((vdats m 0 c).Φ t.castSucc ∗ (vdats m 0 c).owesAt () t.castSucc
      ∗ (∃ d, owns (c : Thread nD τ) (st0_0 t) fullShare ((vdats m 0 c).before 0 t d)) ∗ (∃ d, owns (c : Thread nD τ) (st0_1 t) fullShare ((vdats m 0 c).before 1 t d))
      ∗ (∃ d, owns (c : Thread nD τ) (st0_2 t) fullShare ((vdats m 0 c).before 2 t d)) ∗ (∃ d, owns (c : Thread nD τ) (st0_3 t) fullShare ((vdats m 0 c).before 3 t d))
      ∗ (∃ d, owns (c : Thread nD τ) (st0_4 t) fullShare ((vdats m 0 c).before 4 t d)) ∗ (∃ d, owns (c : Thread nD τ) (st0_5 t) fullShare ((vdats m 0 c).before 5 t d))
      ∗ (∃ d, owns (c : Thread nD τ) (st0_6 t) fullShare ((vdats m 0 c).before 6 t d)))
    ⊢ wp Idealize.ShloMosaic.frame (wpE (defs₀ (F := Ideal)) Variants.none c none) Set.univ (bodyAt0 t) (fun _ => iprop((vdats m 0 c).Φ t.succ ∗ (vdats m 0 c).owesAt () t.succ
      ∗ owns (c : Thread nD τ) (st0_0 t) fullShare ((vdats m 0 c).after 0 t) ∗ owns (c : Thread nD τ) (st0_1 t) fullShare ((vdats m 0 c).after 1 t)
      ∗ owns (c : Thread nD τ) (st0_2 t) fullShare ((vdats m 0 c).after 2 t) ∗ owns (c : Thread nD τ) (st0_3 t) fullShare ((vdats m 0 c).after 3 t)
      ∗ owns (c : Thread nD τ) (st0_4 t) fullShare ((vdats m 0 c).after 4 t) ∗ owns (c : Thread nD τ) (st0_5 t) fullShare ((vdats m 0 c).after 5 t)
      ∗ owns (c : Thread nD τ) (st0_6 t) fullShare ((vdats m 0 c).after 6 t))) := by
  have hO : (vdats m 0 c).owesAt () t.castSucc = (vdats m 0 c).owesAt () t.succ := rfl
  rw [hO, vPhi, vPhi, vafter0, vafter1, vafter2, vafter3, vafter4, vafter5, vafter6]
  generalize (vdats m 0 c).owesAt () t.succ = O
  have b0 := fun d => before0_0_of m (vdats m 0 c) (vA_eq m c 0) (vafter0 m c) t d
  have b1 := fun d => before0_1_of m (vdats m 0 c) (vA_eq m c 1) (vafter1 m c) t d
  have b2 := fun d => before0_2_of m (vdats m 0 c) (vA_eq m c 2) (vafter2 m c) t d
  have b3 := fun d => before0_3_of m (vdats m 0 c) (vA_eq m c 3) (vafter3 m c) t d
  have b6 := before6 m c t
  unfold owns PhiN
  iintro ⟨⟨⟨%fs, %ft, %hK, Hs, Ht⟩, Hr⟩, Ho, ⟨%d0, %f0, %e0, H0⟩, ⟨%d1, %f1, %e1, H1⟩, ⟨%d2, %f2, %e2, H2⟩, ⟨%d3, %f3, %e3, H3⟩, ⟨%d4, %f4, -, H4⟩, ⟨%d5, %f5, -, H5⟩, ⟨%d6, %f6, %e6, H6⟩⟩
  have hK' : Kept m c t.val fs ft := hK
  have e0' : (st0_0 t).view.read (Elt Ideal) f0 = iblk m c 0 t := e0.trans (b0 d0)
  have e1' : (st0_1 t).view.read (Elt Ideal) f1 = iblk m c 1 t := e1.trans (b1 d1)
  have e2' : (st0_2 t).view.read (Elt Ideal) f2 = iblk m c 2 t := e2.trans (b2 d2)
  have e3' : (st0_3 t).view.read (Elt Ideal) f3 = iblk m c 3 t := e3.trans (b3 d3)
  have e6' : t.val ≠ 0 → (st0_6 t).view.read (Elt Ideal) f6 = oScale m c (t.val - 1) := fun h => e6.trans (b6 h d6)
  iapply ((run c (grid0.coords t) _ _ _ _ _ _ _ _ _ _ _ _ _ _ f0 f1 f2 f3 f4 f5 f6 fs ft).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  isplitl [Ht]; · iexact Ht
  iintro ⟨H0, H1, H2, H3, H4, H5, H6, Hs, Ht⟩
  isplitl [Hs Ht Hr]
  · isplitl [Hs Ht]
    · iexists _; iexists _
      isplitr
      swap
      · isplitl [Hs]; · iexact Hs
        iexact Ht
      ipureintro
      exact step_kept m c t fs ft _ _ _ _ _ _ _ _ _ _ _ _ _ _ f0 f1 f2 f3 f4 f5 f6 e0'
    · iexact Hr
  isplitl [Ho]; · iexact Ho
  isplitl [H0]
  · iexists _; isplitr
    swap; · iexact H0
    ipureintro; exact e0'
  isplitl [H1]
  · iexists _; isplitr
    swap; · iexact H1
    ipureintro; exact e1'
  isplitl [H2]
  · iexists _; isplitr
    swap; · iexact H2
    ipureintro; exact e2'
  isplitl [H3]
  · iexists _; isplitr
    swap; · iexact H3
    ipureintro; exact e3'
  isplitl [H4]
  · iexists _; isplitr
    swap; · iexact H4
    ipureintro
    exact step_out m c t fs ft _ _ _ _ _ _ _ _ _ _ _ _ _ _ f0 f1 f2 f3 f4 f5 f6 hK' e0' e1' e2' e3'
  isplitl [H5]
  · iexists _; isplitr
    swap; · iexact H5
    ipureintro
    exact step_codes m c t fs ft _ _ _ _ _ _ _ _ _ _ _ _ _ _ f0 f1 f2 f3 f4 f5 f6 hK' e0'
  iexists _; isplitr
  swap; · iexact H6
  ipureintro
  exact step_scale m c t fs ft _ _ _ _ _ _ _ _ _ _ _ _ _ _ f0 f1 f2 f3 f4 f5 f6 hK' e0' e6'

/-- The library's body obligation, at every point. -/
theorem vbody_obligation (c : Dev nD) : BodyObligation (vdats m 0 c) (defs₀ (F := Ideal)) Variants.none () Set.univ := fun t => by
  rw [bigSep_W0, bigSep_W0, defs₀_row]
  exact triple_restated (vsound_body m c t) rfl .rfl fun _ => .rfl

/-- Before the first point the scratch buffers hold anything, -/
theorem hin (c : Dev nD) : (Pipeline.ΦA (Val := Elt Ideal) spec0 c : sProp 𝕄) ⊢ (vdats m 0 c).Φ 0 := by
  rw [vPhi]
  unfold Pipeline.ΦA PhiN
  rw [scopedRest0_eq]
  iintro ⟨⟨⟨%fs, Hs⟩, ⟨%ft, Ht⟩⟩, Hr⟩
  isplitl [Hs Ht]
  · iexists fs; iexists ft
    isplitr
    · ipureintro
      intro t ht
      exact absurd ht (Nat.succ_ne_zero _)
    isplitl [Hs]; · iexact Hs
    iexact Ht
  · iexact Hr

/-- and after the last point what they hold is forgotten. -/
theorem hout (c : Dev nD) : (vdats m 0 c).Φ (Fin.last cfg0.N) ⊢ (Pipeline.ΦA (Val := Elt Ideal) spec0 c : sProp 𝕄) := by
  rw [vPhi]
  unfold Pipeline.ΦA PhiN
  rw [scopedRest0_eq]
  iintro ⟨⟨%fs, %ft, -, Hs, Ht⟩, Hr⟩
  isplitl [Hs Ht]
  · isplitl [Hs]
    · iexists fs; iexact Hs
    · iexists ft; iexact Ht
  · iexact Hr

set_option backward.isDefEq.respectTransparency.types false in
set_option maxHeartbeats 800000 in
/-- The launch: every execution ends, the arrays at what the proof data name. -/
theorem vrun_main : θ_run defs (onTc (τ := τ) (main (F := Ideal))) (s₀ m ρ) (Pipeline.FramePost cfgs (vdats m) 0 (V m)) :=
  Pipeline.θ_run_frame_track (Q' := _) cfgs (vdats m) (0 : Fin 1) launch0 defs₀ Variants.none m ρ main
    (hbody := fun c => (vbody_obligation m c).loose) (hshare := fun c => (vdats m 0 c).share_full fun _ => rfl)
    (howed := fun _ _ => rfl) (V := V m) (hmain := hmain m Variants.none) (hA := vA_eq m) (hin := hin m) (hout := hout m)

/-- The results over the whole input, -/
def resOut (c : Dev nD) : FVec Ideal S2x8192x2048 .bf16 := fun y => gout (X m c) (W m c) (Ws m c) (Bs m c) (y 0) (y 1) (y 2)
/-- the codes, -/
def resCode (c : Dev nD) : FVec Ideal S2x8192x3840 .fp8e4m3 := fun y => gcode (X m c) (y 0) (y 1) (y 2)
/-- and the scales. -/
def resScale (c : Dev nD) : FVec Ideal S2x8192 .f32 := fun y => gscale (X m c) (y 0) (y 1)

theorem arr4 (c : Dev nD) : (vdats m 0 c).arrAt 4 cfg0.N = resOut m c := by
  refine (vdats m 0 c).arrAt_eq_of_covers 4 _ (by decide +kernel) fun t hf y => ?_
  idx_vars y
  obtain rfl : y0 = 0 := Subsingleton.elim _ _
  have e : ((cfg0.win 4).blk t).view.emb (ix3 0 y1 y2) = ix3 (bt t) (rowOf t y1) y2 := by
    blk_ext [idx4]
    · show t.val / 16 + 0 = t.val / 16; omega
    · show t.val % 16 * 512 + y1.val = 512 * (t.val % 16) + y1.val; omega
  rw [e, vafter4]
  rfl

theorem arr5 (c : Dev nD) : (vdats m 0 c).arrAt 5 cfg0.N = resCode m c := by
  refine (vdats m 0 c).arrAt_eq_of_covers 5 _ (by decide +kernel) fun t hf y => ?_
  idx_vars y
  obtain rfl : y0 = 0 := Subsingleton.elim _ _
  have e : ((cfg0.win 5).blk t).view.emb (ix3 0 y1 y2) = ix3 (bt t) (rowOf t y1) y2 := by
    blk_ext [idx5]
    · show t.val / 16 + 0 = t.val / 16; omega
    · show t.val % 16 * 512 + y1.val = 512 * (t.val % 16) + y1.val; omega
  rw [e, vafter5]
  rfl

/-- The scale window's one write-back. -/
theorem whole6 : (cfg0.win 6).WholeAt (⟨31, by decide⟩ : Fin cfg0.N) :=
  (by decide +kernel : win0_6.WholeAt (⟨31, by decide⟩ : Fin grid0.N))

theorem arr6 (c : Dev nD) : (vdats m 0 c).arrAt 6 cfg0.N = resScale m c := by
  refine (vdats m 0 c).arrAt_eq_of_after_last 6 ⟨31, by decide⟩ whole6 _ fun j => ?_
  rw [vafter6]
  have h : ∀ y : S2x8192.Idx, oScale m c 31 y = resScale m c y := fun y => by
    have y0 : (y 0).val < 2 := (y 0).isLt
    have y1 : (y 1).val < 8192 := (y 1).isLt
    unfold oScale resScale
    rw [if_pos (by omega)]
  exact h _

/-- THE RUN: the three results named, the arguments as they were. -/
theorem value : θ_run defs (onTc (τ := τ) (main (F := Ideal))) ⟨m, fun _ => 0, ρ⟩ (fun r => ∀ c : Dev nD,
      r.2.mem ((c.tc : Thread nD τ).loc main_v2_0) = resOut m c
      ∧ r.2.mem ((c.tc : Thread nD τ).loc main_v2_1) = resCode m c
      ∧ r.2.mem ((c.tc : Thread nD τ).loc main_v2_2) = resScale m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (arr4 m c), ((h c).1 5).trans (arr5 m c), ((h c).1 6).trans (arr6 m c),
      ((h c).1 0).trans (((vdats m 0 c).arrAt_in 0 rfl _).trans ((vA_eq m c 0).trans (V_main_arg0 m c))),
      ((h c).1 1).trans (((vdats m 0 c).arrAt_in 1 rfl _).trans ((vA_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (vrun_main m ρ)

end Cert.Proof.IRun

end
-- ==== Proof.RWins.lean ====
/-
  The reference's windows of three taps, laid out by its reshape, slice, pad and concatenation, index by index.
-/
module

public import proofs.«01_k».proof.Proof.Spec
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.Proof.RValue

open Cert.ReferenceIdeal Cert.ReferenceIdeal.Gen Cert.Proof.Spec
open Idealize.ShloMosaic Idealize.ShloMosaic.TcCoe Idealize.SL.Sem

/-- The windows of three taps, as the program lays them out. -/
def wins (A : FVec Ideal S2x16384x1280 .bf16) : FVec Ideal S2x8192x3840 .f32 :=
  extf .f32 (concatenate S2x8192x3840 2
    [⟨S2x8192x1280, pad S2x8192x1280 ![0, 1, 0] ![0, 0, 0] ![0, 0, 0]
        (extractStridedSlice S2x8191x1280 ![0, 0, 1280] (shapeCast S2x8192x2560 A shapeCasts_S2x16384x1280_S2x8192x2560) slices_S2x8192x2560_S2x8191x1280_0_0_1280)
        (sitofp .bf16 (constantI S_ 32 0#32) : FVec Ideal S_ .bf16) pads_S2x8191x1280_S2x8192x1280_000_100_000 h_S_⟩,
      ⟨S2x8192x2560, shapeCast S2x8192x2560 A shapeCasts_S2x16384x1280_S2x8192x2560⟩]
    concatenates_S2x8192x1280_S2x8192x2560_S2x8192x3840_d2) bitsLt_bf16_f32

/-- The activations as a plain function. -/
def act (A : FVec Ideal S2x16384x1280 .bf16) (b : Fin 2) (a : Fin 16384) (k : Fin 1280) : EReal := A (ix3 b a k)

/-- Two rows side by side, -/
theorem pair_at (A : FVec Ideal S2x16384x1280 .bf16) (b : Fin 2) (r : Fin 8192) (j : Fin 2560) :
    shapeCast S2x8192x2560 A shapeCasts_S2x16384x1280_S2x8192x2560 (ix3 b r j)
      = act A b ⟨2 * r.val + j.val / 1280, by omega⟩ ⟨j.val % 1280, Nat.mod_lt _ (by norm_num)⟩ := by
  unfold act
  have h : shapeCast S2x8192x2560 A shapeCasts_S2x16384x1280_S2x8192x2560 (ix3 b r j)
      = A (ix3 b ⟨r.val * 2 + j.val / 1280, by omega⟩ ⟨j.val % 1280, Nat.mod_lt _ (by norm_num)⟩) := by pointwise
  rw [h]
  exact congrArg (fun a => A (ix3 b a _)) (Fin.ext (by show r.val * 2 + j.val / 1280 = 2 * r.val + j.val / 1280; omega))

/-- their second row, one place down, -/
theorem slice_at (A : FVec Ideal S2x16384x1280 .bf16) (b : Fin 2) (r : Fin 8192) (hr : r.val ≠ 0) (k : Fin 1280) :
    extractStridedSlice S2x8191x1280 ![0, 0, 1280] (shapeCast S2x8192x2560 A shapeCasts_S2x16384x1280_S2x8192x2560) slices_S2x8192x2560_S2x8191x1280_0_0_1280
      (ix3 b ⟨r.val - 1, by omega⟩ k : S2x8191x1280.Idx) = act A b ⟨2 * r.val - 1, by omega⟩ k := by
  have h : extractStridedSlice S2x8191x1280 ![0, 0, 1280] (shapeCast S2x8192x2560 A shapeCasts_S2x16384x1280_S2x8192x2560) slices_S2x8192x2560_S2x8191x1280_0_0_1280
      (ix3 b ⟨r.val - 1, by omega⟩ k : S2x8191x1280.Idx) = shapeCast S2x8192x2560 A shapeCasts_S2x16384x1280_S2x8192x2560 (ix3 b ⟨r.val - 1, by omega⟩ ⟨1280 + k.val, by omega⟩) := by
    refine extractStridedSlice_apply _ _ _ _ _ fun a => ?_
    fin_cases a
    · show b.val = 0 + b.val; omega
    · show r.val - 1 = 0 + (r.val - 1); omega
    · rfl
  rw [h, pair_at]
  refine congrArg₂ (act A b) (Fin.ext ?_) (Fin.ext ?_)
  · show 2 * (r.val - 1) + (1280 + k.val) / 1280 = 2 * r.val - 1; omega
  · show (1280 + k.val) % 1280 = k.val; omega

theorem sit0 : (sitofp .bf16 (constantI S_ 32 0#32) : FVec Ideal S_ .bf16) (Shape.Idx.first h_S_) = (0 : EReal) := by
  show (((0#32 : BitVec 32).toInt : ℝ) : EReal) = 0
  simp

/-- A row put before the first: the padding value there, -/
theorem pad_first (x : FVec Ideal S2x8191x1280 .bf16) (v : FVec Ideal S_ .bf16) (b : Fin 2) (r : Fin 8192) (hr : r.val = 0) (k : Fin 1280) :
    pad S2x8192x1280 ![0, 1, 0] ![0, 0, 0] ![0, 0, 0] x v pads_S2x8191x1280_S2x8192x1280_000_100_000 h_S_ (ix3 b r k : S2x8192x1280.Idx)
      = v (Shape.Idx.first h_S_) := by
  unfold pad
  split_ifs with hin
  · exact absurd (show 1 ≤ r.val from (hin 1).1) (by omega)
  · rfl

/-- the rows themselves after it, -/
theorem pad_later (x : FVec Ideal S2x8191x1280 .bf16) (v : FVec Ideal S_ .bf16) (b : Fin 2) (r : Fin 8192) (hr : r.val ≠ 0) (k : Fin 1280) :
    pad S2x8192x1280 ![0, 1, 0] ![0, 0, 0] ![0, 0, 0] x v pads_S2x8191x1280_S2x8192x1280_000_100_000 h_S_ (ix3 b r k : S2x8192x1280.Idx)
      = x (ix3 b ⟨r.val - 1, by omega⟩ k : S2x8191x1280.Idx) := by
  have hb := b.isLt
  have hr8 := r.isLt
  have hk := k.isLt
  unfold pad
  split_ifs with hin
  · refine congrArg x (funext fun a => Fin.ext ?_)
    fin_cases a
    · show (b.val - 0) / (0 + 1) = b.val; omega
    · show (r.val - 1) / (0 + 1) = r.val - 1; omega
    · show (k.val - 0) / (0 + 1) = k.val; omega
  · refine absurd (fun a => ?_) hin
    fin_cases a
    · show 0 ≤ b.val ∧ (b.val - 0) % (0 + 1) = 0 ∧ (b.val - 0) / (0 + 1) < 2; omega
    · show 1 ≤ r.val ∧ (r.val - 1) % (0 + 1) = 0 ∧ (r.val - 1) / (0 + 1) < 8191; omega
    · show 0 ≤ k.val ∧ (k.val - 0) % (0 + 1) = 0 ∧ (k.val - 0) / (0 + 1) < 1280; omega

/-- and the windows. -/
theorem wins_at (A : FVec Ideal S2x16384x1280 .bf16) (b : Fin 2) (r : Fin 8192) (j : Fin 3840) :
    wins A (ix3 b r j) = win (act A) b r j := by
  unfold wins
  rw [extf_apply, Ideal.extf_def]
  unfold win
  by_cases h : j.val < 1280
  · rw [dif_pos h]
    refine (concatenate_pair_apply_left (s₁ := S2x8192x1280) (s₂ := S2x8192x2560) 2 _ _ _ (ix3 b r j) rfl (ix3 b r ⟨j.val, h⟩ : S2x8192x1280.Idx) ?_).trans ?_
    · intro a; fin_cases a <;> rfl
    · by_cases hr : r.val = 0
      · rw [dif_pos hr]
        exact (pad_first _ _ b r hr ⟨j.val, h⟩).trans sit0
      · rw [dif_neg hr]
        unfold pad
        exact (pad_later _ _ b r hr ⟨j.val, h⟩).trans (slice_at A b r hr ⟨j.val, h⟩)
  · rw [dif_neg h]
    refine (concatenate_pair_apply_right (s₁ := S2x8192x1280) (s₂ := S2x8192x2560) 2 _ _ _ (ix3 b r j) rfl rfl (ix3 b r ⟨j.val - 1280, by omega⟩ : S2x8192x2560.Idx) ?_ ?_).trans ?_
    · intro a ha; fin_cases a <;> first | rfl | exact absurd rfl ha
    · show j.val - 1280 + 1280 = j.val; omega
    · rw [pair_at]
      by_cases h2 : j.val < 2560
      · rw [dif_pos h2]
        refine congrArg₂ (act A b) (Fin.ext ?_) (Fin.ext ?_)
        · show 2 * r.val + (j.val - 1280) / 1280 = 2 * r.val; omega
        · show (j.val - 1280) % 1280 = j.val - 1280; omega
      · rw [dif_neg h2]
        refine congrArg₂ (act A b) (Fin.ext ?_) (Fin.ext ?_)
        · show 2 * r.val + (j.val - 1280) / 1280 = 2 * r.val + 1; omega
        · show (j.val - 1280) % 1280 = j.val - 2560; omega

end Cert.Proof.RValue

end
-- ==== Proof.RPay.lean ====
/-
  What the reference's one grid point computes, index by index: each row's exponent, scale and codes, the scaled
  product and its GELU.
-/
module

public import proofs.«01_k».proof.Proof.Spec
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.Proof.RValue

open Cert.ReferenceIdeal Cert.ReferenceIdeal.Gen Cert.Proof.Spec
open Idealize.ShloMosaic Idealize.ShloMosaic.TcCoe Idealize.SL.Sem

/-- The scale's constant. -/
theorem inv448 : Ideal.ofBits .f32 991054117#32 ≠ 0 ∧ Ideal.ofBits .f32 991054117#32 ≠ ⊤ ∧ 0 < Ideal.ofBits .f32 991054117#32 := by
  have e : Ideal.ofBits .f32 991054117#32 = (((9586981 / 4294967296 : ℝ)) : EReal) := by
    simp [Ideal.ofBits, Ideal.ieee, -EReal.coe_mul]; norm_num
  rw [e]
  refine ⟨?_, EReal.coe_ne_top _, ?_⟩
  · exact_mod_cast (by norm_num : (9586981 / 4294967296 : ℝ) ≠ 0)
  · exact_mod_cast (by norm_num : (0 : ℝ) < 9586981 / 4294967296)

/-- A scaled maximum is zero when the maximum is. -/
theorem scaled_zero (a : EReal) : scaled a = 0 ↔ a = 0 := by
  unfold scaled
  rw [mul_eq_zero]
  exact or_iff_left inv448.1

theorem z0 : Ideal.ofBits .f32 0#32 = 0 := by simp [Ideal.ofBits, Ideal.ieee]
theorem one1 : Ideal.ofBits .f32 1065353216#32 = 1 := by
  simp [Ideal.ofBits, Ideal.ieee, -EReal.coe_mul]
  norm_num

variable (P : FVec Ideal S2x8192x3840 .f32)

theorem fold_max_bot {n : Nat} (f : Fin n → EReal) :
    Finset.fold max (Ideal.ofBits .f32 4286578688#32) f Finset.univ = Finset.univ.sup f := by
  rw [show Ideal.ofBits .f32 4286578688#32 = ⊥ by simp [Ideal.ofBits, Ideal.ieee]]; rfl

/-- A row's largest magnitude, by the reduction. -/
theorem max_at (b : Fin 2) (r : Fin 8192) :
    (multiReduction .maximumf [2] S2x8192 (absf (shapeCast S2x8192x3840 P shapeCasts_S2x8192x3840_S2x8192x3840)) 0xFF800000#32 reduces_S2x8192x3840_S2x8192 (.inl rfl) rfl : FVec Ideal S2x8192 .f32) (ix2 b r)
      = rowMax fun j => P (ix3 b r j) := by
  have h : (multiReduction .maximumf [2] S2x8192 (absf (shapeCast S2x8192x3840 P shapeCasts_S2x8192x3840_S2x8192x3840)) 0xFF800000#32 reduces_S2x8192x3840_S2x8192 (.inl rfl) rfl : FVec Ideal S2x8192 .f32) (ix2 b r)
      = Finset.fold max (Ideal.ofBits .f32 4286578688#32) (fun j : Fin 3840 => max (P (ix3 b r j)) (-(P (ix3 b r j)))) Finset.univ := by
    pointwise
    exact congrArg (fun f => Finset.fold max (Ideal.ofBits .f32 4286578688#32) f Finset.univ) (funext fun j => rfl)
  rw [h, fold_max_bot, rowMax]

theorem invlog : Named.named (F := Ideal) (φ := .f32) κ "inv_log_two" 0x3FB8AA3B#32 = (((Real.log 2)⁻¹ : ℝ) : EReal) := rfl

/-- The exponent of a vector of maxima. -/
theorem expo_at (M : FVec Ideal S2x8192 .f32) (y : S2x8192.Idx) :
    select (cmpf .oeq M (broadcast S2x8192 (Scalar.ofBits .f32 0x00000000#32))) (broadcast S2x8192 (Scalar.ofBits .f32 0x00000000#32))
      (addf (floor (mulf (log (mulf M (broadcast S2x8192 (Scalar.ofBits .f32 0x3B124925#32)))) (broadcast S2x8192 (Named.named κ "inv_log_two" 0x3FB8AA3B#32))))
        (broadcast S2x8192 (Scalar.ofBits .f32 0x3F800000#32))) y = rexp (scaled (M y)) := by
  have h : ∀ a : EReal, (if a = 0 then 0 else Ideal.liftRound Int.floor (Ideal.log (a * Ideal.ofBits .f32 991054117#32) * (((Real.log 2)⁻¹ : ℝ) : EReal)) + 1) = rexp (scaled a) := fun a => by
    unfold rexp
    by_cases hz : a = 0
    · rw [if_pos hz, if_pos ((scaled_zero _).2 hz)]
    · rw [if_neg hz, if_neg fun e => hz ((scaled_zero _).1 e)]
      rfl
  rw [← h]
  pointwise
  rw [invlog]

/-- The exponent, -/
theorem pay2_at (b : Fin 2) (r : Fin 8192) : k0_pay2 (F := Ideal) P (ix2 b r) = rexp (scaled (rowMax fun j => P (ix3 b r j))) := by
  rw [← max_at]
  unfold k0_pay2
  exact expo_at _ _

/-- the scale, -/
theorem pay3_at (b : Fin 2) (r : Fin 8192) : k0_pay3 (F := Ideal) P (ix2 b r) = Ideal.exp2 (rexp (scaled (rowMax fun j => P (ix3 b r j)))) := by
  have h : ∀ E : FVec Ideal S2x8192 .f32, exp2 E (ix2 b r) = Ideal.exp2 (E (ix2 b r)) := fun _ => rfl
  unfold k0_pay3
  exact (h _).trans (congrArg Ideal.exp2 (pay2_at P b r))

/-- The codes at given exponents. -/
theorem codes_at (E : FVec Ideal S2x8192 .f32) (b : Fin 2) (r : Fin 8192) (j : Fin 3840) :
    (truncf .fp8e4m3 (minimumf (broadcast S2x8192x3840 (Scalar.ofBits .f32 0x43E00000#32)) (maximumf (broadcast S2x8192x3840 (Scalar.ofBits .f32 0xC3E00000#32))
      (mulf (shapeCast S2x8192x3840 P shapeCasts_S2x8192x3840_S2x8192x3840)
        (broadcastTo S2x8192x3840 (shapeCast S2x8192x1 (exp2 (subf (broadcast S2x8192 (Scalar.ofBits .f32 0x00000000#32)) E)) shapeCasts_S2x8192_S2x8192x1) broadcasts_S2x8192x1_S2x8192x3840))))
      bitsLt_fp8e4m3_f32 : FVec Ideal S2x8192x3840 .fp8e4m3) (ix3 b r j) = code (P (ix3 b r j)) (Ideal.exp2 (0 - E (ix2 b r))) := by
  unfold code
  pointwise
  rfl

/-- the codes, -/
theorem pay4_at (b : Fin 2) (r : Fin 8192) (j : Fin 3840) : k0_pay4 (F := Ideal) P P (ix3 b r j)
    = code (P (ix3 b r j)) (Ideal.exp2 (0 - rexp (scaled (rowMax fun j => P (ix3 b r j))))) := by
  rw [← pay2_at]
  unfold k0_pay4
  generalize k0_pay2 (F := Ideal) P = E
  exact codes_at P E b r j

variable (Q : FVec Ideal S3840x2048 .fp8e4m3) (s b' : FVec Ideal S2048 .f32)

/-- the scaled product -/
theorem pay5_at (b : Fin 2) (r : Fin 8192) (n : Fin 2048) : k0_pay5 (F := Ideal) P P Q s (ix3 b r n)
    = (∑ j : Fin 3840, k0_pay4 (F := Ideal) P P (ix3 b r j) * Q (ix2 j n)) * k0_pay3 (F := Ideal) P (ix2 b r) * s (ix1 n) := by
  pointwise [k0_pay5]

/-- and its GELU. -/
theorem pay1_at (Z : FVec Ideal S2x8192x2048 .f32) (b : Fin 2) (r : Fin 8192) (n : Fin 2048) : k0_pay1 (F := Ideal) Z b' (ix3 b r n)
    = Ideal.ofBits .f32 1056964608#32 * (Z (ix3 b r n) + b' (ix1 n) + (Z (ix3 b r n) + b' (ix1 n)) * Ideal.erf ((Z (ix3 b r n) + b' (ix1 n)) * sqh)) := by
  pointwise [k0_pay1]
  rfl

end Cert.Proof.RValue

end
-- ==== Proof.RValue.lean ====
/-
  The reference's run: what its one grid point leaves, index by index, over plain functions, and the three arrays it
  ends with.  Its exponent is the logarithm's, so the scales are the kernel's where the scaled maximum is zero or normal.
-/
module

public import proofs.«01_k».proof.Proof.RWins
public import proofs.«01_k».proof.Proof.RPay
public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.Proof.RValue

open Cert.ReferenceIdeal Cert.ReferenceIdeal.Gen Cert.Proof.Spec
open Idealize.ShloMosaic Idealize.ShloMosaic.TcCoe Idealize.SL.Sem

section Run

variable (m : (ℓ : Loc nD τ sig) → Buf (Elt Ideal) ℓ) (ρ : Dev nD → PrngReg) (c : Dev nD)

/-- The launched arrays: activations, -/
abbrev A0 : FVec Ideal S2x16384x1280 .bf16 := m ((c : Thread nD τ).loc main_arg0)
/-- weights, -/
abbrev A1 : FVec Ideal S3840x2048 .fp8e4m3 := m ((c : Thread nD τ).loc main_arg1)
/-- their scales, -/
abbrev A2 : FVec Ideal S2048 .f32 := m ((c : Thread nD τ).loc main_arg2)
/-- the bias. -/
abbrev A3 : FVec Ideal S2048 .f32 := m ((c : Thread nD τ).loc main_arg3)

/-- The windows, as the region finds them. -/
theorem V_v4 : V m c main_v4 = wins (A0 m c) := by
  unfold wins
  unfold_abbrev_sides
  simp only [List.flatten_cons, List.flatten_nil, List.append_nil, List.cons_append, List.nil_append]
  after_results
  rfl

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![0] := (by decide +kernel : ∀ t : Fin grid0.N, _)

/-- Each window's one block is its array. -/
theorem blk0 (t : Fin cfg0.N) : iblk m c 0 t = wins (A0 m c) := by
  funext y
  idx_vars y
  blk_simp [iblk]
  rw [V_v4]
  refine congrArg (wins (A0 m c)) ?_
  blk_ext [idx0]
theorem blk1 (t : Fin cfg0.N) : iblk m c 1 t = A1 m c := by
  funext y
  idx_vars y
  blk_simp [iblk]
  rw [V_main_arg1]
  refine congrArg (A1 m c) ?_
  blk_ext [idx1]
theorem blk2 (t : Fin cfg0.N) : iblk m c 2 t = A2 m c := by
  funext y
  idx_vars y
  blk_simp [iblk]
  rw [V_main_arg2]
  refine congrArg (A2 m c) ?_
  blk_ext [idx2]
theorem blk3 (t : Fin cfg0.N) : iblk m c 3 t = A3 m c := by
  funext y
  idx_vars y
  blk_simp [iblk]
  rw [V_main_arg3]
  refine congrArg (A3 m c) ?_
  blk_ext [idx3]

/-- A store over a whole buffer leaves what it stores; a load over one reads it. -/
theorem canon4 (Z : Vec Ideal S2x8192x2048 .bf16) : View.canon (Val := Elt Ideal) [⟨r0_3, Z⟩] = Z := by
  funext y
  refine View.canon_apply_of_pieces (Val := Elt Ideal) Z _ ?_ y (cover0_4 (F := Ideal) Z y)
  intro pc hpc
  rcases List.mem_cons.mp hpc with rfl | hpc
  · exact fun x => congrArg Z (funext fun a => Fin.ext (by
      match a with | ⟨0, _⟩ => show (x 0).val = (0 + 1 * (x 0).val); omega | ⟨1, _⟩ => show (x 1).val = (0 + 1 * (x 1).val); omega | ⟨2, _⟩ => show (x 2).val = (0 + 1 * (x 2).val); omega))
  nomatch hpc
theorem canon5 (Z : Vec Ideal S2x8192x3840 .fp8e4m3) : View.canon (Val := Elt Ideal) [⟨r0_0, Z⟩] = Z := by
  funext y
  refine View.canon_apply_of_pieces (Val := Elt Ideal) Z _ ?_ y (cover0_5 (F := Ideal) Z y)
  intro pc hpc
  rcases List.mem_cons.mp hpc with rfl | hpc
  · exact fun x => congrArg Z (funext fun a => Fin.ext (by
      match a with | ⟨0, _⟩ => show (x 0).val = (0 + 1 * (x 0).val); omega | ⟨1, _⟩ => show (x 1).val = (0 + 1 * (x 1).val); omega | ⟨2, _⟩ => show (x 2).val = (0 + 1 * (x 2).val); omega))
  nomatch hpc
theorem canon6 (Z : Vec Ideal S2x8192 .f32) : View.canon (Val := Elt Ideal) [⟨r0_4, Z⟩] = Z := by
  funext y
  refine View.canon_apply_of_pieces (Val := Elt Ideal) Z _ ?_ y (cover0_6 (F := Ideal) Z y)
  intro pc hpc
  rcases List.mem_cons.mp hpc with rfl | hpc
  · exact fun x => congrArg Z (funext fun a => Fin.ext (by
      match a with | ⟨0, _⟩ => show (x 0).val = (0 + 1 * (x 0).val); omega | ⟨1, _⟩ => show (x 1).val = (0 + 1 * (x 1).val); omega))
  nomatch hpc
theorem ld0 (x : Vec Ideal S2x8192x3840 .f32) : View.ld (Val := Elt Ideal) x r0_0 = x := funext fun y => congrArg x (funext fun a => Fin.ext (by
  match a with | ⟨0, _⟩ => show (0 + 1 * (y 0).val) = (y 0).val; omega | ⟨1, _⟩ => show (0 + 1 * (y 1).val) = (y 1).val; omega | ⟨2, _⟩ => show (0 + 1 * (y 2).val) = (y 2).val; omega))
theorem ld1 (x : Vec Ideal S3840x2048 .fp8e4m3) : View.ld (Val := Elt Ideal) x r0_1 = x := funext fun y => congrArg x (funext fun a => Fin.ext (by
  match a with | ⟨0, _⟩ => show (0 + 1 * (y 0).val) = (y 0).val; omega | ⟨1, _⟩ => show (0 + 1 * (y 1).val) = (y 1).val; omega))
theorem ld2 (x : Vec Ideal S2048 .f32) : View.ld (Val := Elt Ideal) x r0_2 = x := funext fun y => congrArg x (funext fun a => Fin.ext (by
  match a with | ⟨0, _⟩ => show (0 + 1 * (y 0).val) = (y 0).val; omega))

/-- What the point leaves in its buffers. -/
theorem left4 (x0 : Vec Ideal S2x8192x3840 .f32) (x1 : Vec Ideal S3840x2048 .fp8e4m3) (x2 x3 : Vec Ideal S2048 .f32) :
    out0_4 (F := Ideal) x0 x1 x2 x3 = k0_pay1 (F := Ideal) (k0_pay5 (F := Ideal) x0 x0 x1 x2) x3 := by
  unfold out0_4
  rw [canon4, ld0, ld1, ld2, ld2]
theorem left5 (x0 : Vec Ideal S2x8192x3840 .f32) (x1 : Vec Ideal S3840x2048 .fp8e4m3) (x2 x3 : Vec Ideal S2048 .f32) :
    out0_5 (F := Ideal) x0 x1 x2 x3 = k0_pay4 (F := Ideal) x0 x0 := by
  unfold out0_5
  rw [canon5, ld0]
theorem left6 (x0 : Vec Ideal S2x8192x3840 .f32) (x1 : Vec Ideal S3840x2048 .fp8e4m3) (x2 x3 : Vec Ideal S2048 .f32) :
    out0_6 (F := Ideal) x0 x1 x2 x3 = k0_pay3 (F := Ideal) x0 := by
  unfold out0_6
  rw [canon6, ld0]

theorem whole4 : (cfg0.win 4).WholeAt (⟨0, by decide⟩ : Fin cfg0.N) := (by decide +kernel : win0_4.WholeAt (⟨0, by decide⟩ : Fin grid0.N))
theorem whole5 : (cfg0.win 5).WholeAt (⟨0, by decide⟩ : Fin cfg0.N) := (by decide +kernel : win0_5.WholeAt (⟨0, by decide⟩ : Fin grid0.N))
theorem whole6 : (cfg0.win 6).WholeAt (⟨0, by decide⟩ : Fin cfg0.N) := (by decide +kernel : win0_6.WholeAt (⟨0, by decide⟩ : Fin grid0.N))

/-- The three arrays the run ends with. -/
theorem arr4_of (Z : Vec Ideal S2x8192x2048 .bf16) (h : k0_pay1 (F := Ideal) (k0_pay5 (wins (A0 m c)) (wins (A0 m c)) (A1 m c) (A2 m c)) (A3 m c) = Z) :
    (dats m 0 c).arrAt 4 cfg0.N = Z := by
  refine (dats m 0 c).arrAt_eq_of_after_last 4 ⟨0, by decide⟩ whole4 _ fun j => ?_
  rw [after0_4, blk0, blk1, blk2, blk3, left4, h]
  have h : ∀ y : S2x8192x2048.Idx, Z y = Z y := fun _ => rfl
  exact h _
theorem arr5_of (Z : Vec Ideal S2x8192x3840 .fp8e4m3) (h : k0_pay4 (F := Ideal) (wins (A0 m c)) (wins (A0 m c)) = Z) : (dats m 0 c).arrAt 5 cfg0.N = Z := by
  refine (dats m 0 c).arrAt_eq_of_after_last 5 ⟨0, by decide⟩ whole5 _ fun j => ?_
  rw [after0_5, blk0, blk1, blk2, blk3, left5, h]
  have h : ∀ y : S2x8192x3840.Idx, Z y = Z y := fun _ => rfl
  exact h _
theorem arr6_of (Z : Vec Ideal S2x8192 .f32) (h : k0_pay3 (F := Ideal) (wins (A0 m c)) = Z) : (dats m 0 c).arrAt 6 cfg0.N = Z := by
  refine (dats m 0 c).arrAt_eq_of_after_last 6 ⟨0, by decide⟩ whole6 _ fun j => ?_
  rw [after0_6, blk0, blk1, blk2, blk3, left6, h]
  have h : ∀ y : S2x8192.Idx, Z y = Z y := fun _ => rfl
  exact h _

end Run

section Meaning

variable (A : FVec Ideal S2x16384x1280 .bf16) (Q : FVec Ideal S3840x2048 .fp8e4m3) (s d : FVec Ideal S2048 .f32)

theorem max_wins (b : Fin 2) (r : Fin 8192) : scaled (rowMax fun j => wins A (ix3 b r j)) = smax (act A) b r := by
  unfold smax
  exact congrArg (fun f => scaled (rowMax f)) (funext fun j => wins_at A b r j)

/-- Where the row's scaled maximum is zero or normal, the scale -/
theorem scale_wins (b : Fin 2) (r : Fin 8192) (h : Normal (smax (act A) b r)) : k0_pay3 (F := Ideal) (wins A) (ix2 b r) = gscale (act A) b r := by
  rw [pay3_at, max_wins, exp2_rexp h, gscale]

/-- and the codes are the kernel's, -/
theorem code_wins (b : Fin 2) (r : Fin 8192) (j : Fin 3840) (h : Normal (smax (act A) b r)) : k0_pay4 (F := Ideal) (wins A) (wins A) (ix3 b r j) = gcode (act A) b r j := by
  rw [pay4_at, max_wins, exp2_neg_rexp h, wins_at, gcode]

/-- and so the result. -/
theorem out_wins (b : Fin 2) (r : Fin 8192) (n : Fin 2048) (h : Normal (smax (act A) b r)) :
    k0_pay1 (F := Ideal) (k0_pay5 (wins A) (wins A) Q s) d (ix3 b r n)
      = gout (act A) (fun j n => Q (ix2 j n)) (fun n => s (ix1 n)) (fun n => d (ix1 n)) b r n := by
  have hs : (∑ j : Fin 3840, k0_pay4 (F := Ideal) (wins A) (wins A) (ix3 b r j) * Q (ix2 j n)) = ∑ j : Fin 3840, gcode (act A) b r j * Q (ix2 j n) :=
    Finset.sum_congr rfl fun j _ => congrArg (· * Q (ix2 j n)) (code_wins A b r j h)
  have hz : k0_pay5 (F := Ideal) (wins A) (wins A) Q s (ix3 b r n) = (∑ j : Fin 3840, gcode (act A) b r j * Q (ix2 j n)) * gscale (act A) b r * s (ix1 n) := by
    rw [pay5_at, hs, scale_wins A b r h]
  rw [pay1_at, hz, gout, kgelu_eq, rgelu]

end Meaning

section Final

variable (m : (ℓ : Loc nD τ sig) → Buf (Elt Ideal) ℓ) (ρ : Dev nD → PrngReg)

/-- THE RUN: the three results named, where every row's scaled maximum is zero or normal; the arguments as they were. -/
theorem value (hn : ∀ c b r, Normal (smax (act (A0 m c)) b r)) :
    θ_run defs (onTc (τ := τ) (main (F := Ideal))) ⟨m, fun _ => 0, ρ⟩ (fun r => ∀ c : Dev nD,
      r.2.mem ((c.tc : Thread nD τ).loc main_v5_0) = (fun y => gout (act (A0 m c)) (fun j n => A1 m c (ix2 j n)) (fun n => A2 m c (ix1 n)) (fun n => A3 m c (ix1 n)) (y 0) (y 1) (y 2) : FVec Ideal S2x8192x2048 .bf16)
      ∧ r.2.mem ((c.tc : Thread nD τ).loc main_v5_1) = (fun y => gcode (act (A0 m c)) (y 0) (y 1) (y 2) : FVec Ideal S2x8192x3840 .fp8e4m3)
      ∧ r.2.mem ((c.tc : Thread nD τ).loc main_v5_2) = (fun y => gscale (act (A0 m c)) (y 0) (y 1) : FVec Ideal S2x8192 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have e4 : ∀ c, (dats m 0 c).arrAt 4 cfg0.N = (fun y => gout (act (A0 m c)) (fun j n => A1 m c (ix2 j n)) (fun n => A2 m c (ix1 n)) (fun n => A3 m c (ix1 n)) (y 0) (y 1) (y 2) : FVec Ideal S2x8192x2048 .bf16) := fun c => by
    refine arr4_of m c _ (funext fun y => ?_)
    idx_vars y
    exact out_wins (A0 m c) (A1 m c) (A2 m c) (A3 m c) y0 y1 y2 (hn c y0 y1)
  have e5 : ∀ c, (dats m 0 c).arrAt 5 cfg0.N = (fun y => gcode (act (A0 m c)) (y 0) (y 1) (y 2) : FVec Ideal S2x8192x3840 .fp8e4m3) := fun c => by
    refine arr5_of m c _ (funext fun y => ?_)
    idx_vars y
    exact code_wins (A0 m c) y0 y1 y2 (hn c y0 y1)
  have e6 : ∀ c, (dats m 0 c).arrAt 6 cfg0.N = (fun y => gscale (act (A0 m c)) (y 0) (y 1) : FVec Ideal S2x8192 .f32) := fun c => by
    refine arr6_of m c _ (funext fun y => ?_)
    idx_vars y
    exact scale_wins (A0 m c) y0 y1 (hn c y0 y1)
  exact (θ_run defs _ _).mono (fun r h c => ⟨(h c).1.trans (e4 c), (h c).2.1.trans (e5 c), (h c).2.2.1.trans (e6 c), (h c).2.2.2⟩) (Value.run_blocks m ρ)

end Final

end Cert.Proof.RValue

end
-- ==== Proof.RPre.lean ====
/-
  The precondition read off: where it holds, every row's scaled maximum is zero or normal.
-/
module

public import proofs.«01_k».proof.Proof.RWins
public import proofs.«01_k».proof.Proof.RPay
public import proofs.«01_k».proof.Proof.Gen.Pre_normal_rows
public import Idealize.ShloMosaic.Lib.KernelVsHost
public import Idealize.ShloMosaic.Lib.ReduceAll
public import Idealize.ShloMosaic.Lib.Pointwise

@[expose] public section

set_option maxRecDepth 16384

noncomputable section

namespace Cert.Proof.RPre

open Cert.Pre_normal_rows Cert.Proof.Spec Cert.Proof.RValue
open Idealize.ShloMosaic Idealize.ShloMosaic.TcCoe Idealize.SL.Sem

variable [Cert.Pre_normal_rows.Facts]
open Cert.Pre_normal_rows.Facts

theorem low : Ideal.ofBits .f32 0x00800000#32 = (((2 : ℝ) ^ (-126 : ℤ) : ℝ) : EReal) := by
  have h := ofBits_pow 1 (by norm_num) (by norm_num)
  norm_num at h ⊢
  exact h
theorem high : Ideal.ofBits .f32 0x7E800000#32 = (((2 : ℝ) ^ (126 : ℤ) : ℝ) : EReal) := by
  have h := ofBits_pow 253 (by norm_num) (by norm_num)
  norm_num at h ⊢
  exact h

/-- The test of one maximum. -/
theorem normal_of_test (a : EReal)
    (h : IntOp.ori (Ideal.cmp .oeq a (Ideal.ofBits .f32 0x00000000#32)) (IntOp.andi (Ideal.cmp .oge (a * Ideal.ofBits .f32 0x3B124925#32) (Ideal.ofBits .f32 0x00800000#32))
      (Ideal.cmp .olt (a * Ideal.ofBits .f32 0x3B124925#32) (Ideal.ofBits .f32 0x7E800000#32))) = 1#1) : Normal (scaled a) := by
  rw [z0, low, high] at h
  have hs : a * Ideal.ofBits .f32 0x3B124925#32 = scaled a := rfl
  rw [hs] at h
  unfold Ideal.cmp at h
  dsimp only at h
  by_cases h0 : a = 0
  · exact Or.inl ((scaled_zero a).2 h0)
  · refine Or.inr ?_
    by_cases h1 : (((2 : ℝ) ^ (-126 : ℤ) : ℝ) : EReal) ≤ scaled a
    · by_cases h2 : scaled a < (((2 : ℝ) ^ (126 : ℤ) : ℝ) : EReal)
      · exact ⟨h1, h2⟩
      · rw [decide_eq_false h0, decide_eq_true h1, decide_eq_false h2] at h
        exact absurd h (by decide)
    · rw [decide_eq_false h0, decide_eq_false h1] at h
      generalize decide (scaled a < (((2 : ℝ) ^ (126 : ℤ) : ℝ) : EReal)) = q at h
      exact absurd h (by cases q <;> decide)

/-- The test, of a vector of maxima. -/
theorem test_at (M : FVec Ideal S2x8192 .f32) (y : S2x8192.Idx)
    (h : ori (cmpf .oeq M (broadcastInDim S2x8192 ![] bcast_S_S2x8192 (constant S_ .f32 0x00000000#32)))
      (andi (cmpf .oge (mulf M (broadcastInDim S2x8192 ![] bcast_S_S2x8192 (constant S_ .f32 0x3B124925#32))) (broadcastInDim S2x8192 ![] bcast_S_S2x8192 (constant S_ .f32 0x00800000#32)))
        (cmpf .olt (mulf M (broadcastInDim S2x8192 ![] bcast_S_S2x8192 (constant S_ .f32 0x3B124925#32))) (broadcastInDim S2x8192 ![] bcast_S_S2x8192 (constant S_ .f32 0x7E800000#32)))) y = 1#1) :
    Normal (scaled (M y)) :=
  normal_of_test (M y) h

/-- The maxima, by the host's reduction. -/
theorem hostmax_at (P : FVec Ideal S2x8192x3840 .f32) (b : Fin 2) (r : Fin 8192) :
    Host.reduce FloatOps.maximumf (Host.absf P) (constant S_ .f32 0xFF800000#32) reducesTo_S2x8192x3840_S2x8192_d2 h_S_ (ix2 b r) = rowMax fun j => P (ix3 b r j) := by
  refine (congrFun (hostReduce_maximumf_eq_multiReduction (Host.absf P) 0xFF800000#32 reducesTo_S2x8192x3840_S2x8192_d2 h_S_ Cert.ReferenceIdeal.Gen.reduces_S2x8192x3840_S2x8192 (.inl rfl) rfl) (ix2 b r)).trans ?_
  have e : Host.absf P = absf (shapeCast S2x8192x3840 P Cert.ReferenceIdeal.Gen.shapeCasts_S2x8192x3840_S2x8192x3840) :=
    funext fun y => by rw [shapeCast_self]; rfl
  rw [e]
  exact max_at P b r

theorem normal_of (A0 : FVec Ideal S2x16384x1280 .bf16) (A1 : FVec Ideal S3840x2048 .fp8e4m3) (A2 A3 : FVec Ideal S2048 .f32)
    (h : Cert.Pre_normal_rows.fn (F := Ideal) A0 A1 A2 A3 = fun _ => 1#1) (b : Fin 2) (r : Fin 8192) : Normal (smax (act A0) b r) := by
  have : Subsingleton S_.Idx := ⟨fun x y => funext fun a => a.elim0⟩
  have e := congrFun h (fun a => a.elim0)
  unfold Cert.Pre_normal_rows.fn fn_part1 fn_pad at e
  dsimp only at e
  have e1 := test_at _ _ (Host.reduce_andi_all _ _ _ _ _ e (ix2 b r))
  have e2 := hostmax_at (wins A0) b r
  have e3 : (rowMax fun j => wins A0 (ix3 b r j)) = rowMax (win (act A0) b r) := congrArg rowMax (funext fun j => wins_at A0 b r j)
  unfold smax
  rw [← e3, ← e2]
  exact e1

end Cert.Proof.RPre

end
-- ==== Proof.lean ====
/-
  The proof of `Cert.Claim`: the frames of the kernel, its ideal form and the reference, the rules' statements by which
  the ideal form was reached, and the three results, equal to the reference's where the precondition holds.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_normal_rows
public import proofs.«01_k».proof.Proof.KFrame
public import proofs.«01_k».proof.Proof.IFrame
public import proofs.«01_k».proof.Proof.IValue
public import proofs.«01_k».proof.Proof.RValue
public import proofs.«01_k».proof.Proof.RPre
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The statements of the rules by which the kernel's ideal form was reached. -/
theorem preserves : Cert.preserves_Kernel_KernelIdeal :=
  ⟨IdealRules.bf16_pair.bufferStatement Cert.KernelIdeal.S8x2x1280 Cert.KernelIdeal.S8x1x1280,
    IdealRules.bf16_pair.statement Cert.KernelIdeal.S8x2x1280 Cert.KernelIdeal.S8x1x1280,
    IdealRules.bf16_pair.selectZeroStatement Cert.KernelIdeal.S8x1280,
    IdealRules.bf16_pair.statement Cert.KernelIdeal.S1024x128 Cert.KernelIdeal.S512x128,
    IdealRules.bf16_pair.statement Cert.KernelIdeal.S8x2x128 Cert.KernelIdeal.S8x1x128,
    IdealRules.bf16_pair.halfStatement Cert.KernelIdeal.S512x128,
    IdealRules.named_const.statement Cert.KernelIdeal.κ "sqrt_half" .f32 0x3F3504F3#32 (((Real.sqrt 2)⁻¹ : ℝ) : EReal) rfl⟩

/-- The three results are the reference's, where every row's scaled maximum is zero or normal. -/
theorem algebraic : Cert.algebraic_KernelIdeal_ReferenceIdeal_pre_normal_rows
    (hKernelIdeal := Cert.KernelIdeal.Gen.facts) (hReferenceIdeal := Cert.ReferenceIdeal.Gen.facts) (hPre_normal_rows := Cert.Pre_normal_rows.Gen.facts) := by
  intro m g m' g' hp ha
  have e0 : ∀ c, RValue.A0 m' c = m ((c.tc : Thread Cert.KernelIdeal.nD Cert.KernelIdeal.τ).loc Cert.KernelIdeal.main_arg0) := fun c => (ha c).1
  have e1 : ∀ c, RValue.A1 m' c = m ((c.tc : Thread Cert.KernelIdeal.nD Cert.KernelIdeal.τ).loc Cert.KernelIdeal.main_arg1) := fun c => (ha c).2.1
  have e2 : ∀ c, RValue.A2 m' c = m ((c.tc : Thread Cert.KernelIdeal.nD Cert.KernelIdeal.τ).loc Cert.KernelIdeal.main_arg2) := fun c => (ha c).2.2.1
  have e3 : ∀ c, RValue.A3 m' c = m ((c.tc : Thread Cert.KernelIdeal.nD Cert.KernelIdeal.τ).loc Cert.KernelIdeal.main_arg3) := fun c => (ha c).2.2.2
  have x0 : ∀ c, RValue.act (RValue.A0 m' c) = IBlocks.X m c := fun c => by rw [e0 c]; rfl
  have x1 : ∀ c, (fun j n => RValue.A1 m' c (ix2 j n)) = IBlocks.W m c := fun c => by rw [e1 c]; rfl
  have x2 : ∀ c, (fun n => RValue.A2 m' c (ix1 n)) = IBlocks.Ws m c := fun c => by rw [e2 c]; rfl
  have x3 : ∀ c, (fun n => RValue.A3 m' c (ix1 n)) = IBlocks.Bs m c := fun c => by rw [e3 c]; rfl
  have hn : ∀ c b r, Spec.Normal (Spec.smax (RValue.act (RValue.A0 m' c)) b r) := fun c b r => by
    rw [e0 c]
    exact RPre.normal_of _ _ _ _ (hp c) b r
  refine ⟨IRun.resOut m, IRun.resCode m, IRun.resScale m, IRun.value m g, (θ_run _ _ _).mono (fun r h c => ?_) (RValue.value m' g' hn)⟩
  obtain ⟨h0, h1, h2, h3⟩ := h c
  rw [x0 c] at h0 h1 h2
  rw [x1 c, x2 c, x3 c] at h0
  exact ⟨h0, h1, h2, h3⟩

/-- The claim. -/
theorem claim : Cert.Claim :=
  ⟨Cert.Kernel.Gen.facts, Cert.KernelIdeal.Gen.facts, Cert.ReferenceIdeal.Gen.facts, Cert.Pre_normal_rows.Gen.facts,
    fun m g _ => KRun.frame m g, fun m g _ => IRun.frame m g, fun m g _ => IRun.frame m g,
    fun m g _ => Cert.ReferenceIdeal.Gen.frame m g, fun m g _ => Cert.ReferenceIdeal.Gen.frame m g, preserves, algebraic⟩

end Cert.Proof

end
